-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![4096]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![1024]⟩ ⟨1, ![4096]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_x_finite_ReferenceIdeal.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .f32) (main_arg1 : FVec F S4096 .f32) (main_arg2 : FVec F S4096 .f32) : IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  main_v2
-- ==== Kernel.lean ====
abbrev S4096x1024 : Shape := ⟨2, ![4096, 1024]⟩
abbrev S1024 : Shape := ⟨1, ![1024]⟩
abbrev S4x2x4096 : Shape := ⟨3, ![4, 2, 4096]⟩
abbrev S8 : Shape := ⟨1, ![8]⟩
abbrev S3 : Shape := ⟨1, ![3]⟩
abbrev S4 : Shape := ⟨1, ![4]⟩
abbrev S_ : Shape := ⟨0, ![]⟩
abbrev S1 : Shape := ⟨1, ![1]⟩
abbrev S512x1024 : Shape := ⟨2, ![512, 1024]⟩
abbrev S512 : Shape := ⟨1, ![512]⟩
abbrev S512x1 : Shape := ⟨2, ![512, 1]⟩
abbrev S4096x1 : Shape := ⟨2, ![4096, 1]⟩
abbrev S4096x2 : Shape := ⟨2, ![4096, 2]⟩
abbrev S2x4096 : Shape := ⟨2, ![2, 4096]⟩
abbrev S1x2x4096 : Shape := ⟨3, ![1, 2, 4096]⟩
abbrev S1x1024 : Shape := ⟨2, ![1, 1024]⟩

abbrev nBuf : Space → Nat
  | .hbm => 4
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .local _ .vmem, ⟨0, _⟩ => ⟨S1024, .f32⟩
  | .local _ .vmem, ⟨1, _⟩ => ⟨S1024, .f32⟩
  | .local _ .vmem, ⟨2, _⟩ => ⟨S4096x1024, .f32⟩
  | .local _ .vmem, ⟨3, _⟩ => ⟨S4x2x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v135 : BitVec 32 := Scalar.addi v2 c1_i32_109
  let c4_i32_110 : BitVec 32 := 4#32
  let v136 : BitVec 32 := Scalar.remsi v135 c4_i32_110
  let c1_i32_115 : BitVec 32 := 1#32
  let v137 : BitVec 32 := Scalar.muli v136 c1_i32_115
  let v138 : BitVec 32 := Scalar.addi c0_i32_116 v137
  v138.toNat
def k0_dev5 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_121 : BitVec 32 := 2#32
  let v147 : BitVec 32 := Scalar.addi v2 c2_i32_121
  let c4_i32_122 : BitVec 32 := 4#32
  let v148 : BitVec 32 := Scalar.remsi v147 c4_i32_122
  let c1_i32_127 : BitVec 32 := 1#32
  let v149 : BitVec 32 := Scalar.muli v148 c1_i32_127
  let v150 : BitVec 32 := Scalar.addi c0_i32_128 v149
  v150.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_133 : BitVec 32 := 3#32
  let v159 : BitVec 32 := Scalar.addi v2 c3_i32_133
  let c4_i32_134 : BitVec 32 := 4#32
  let v160 : BitVec 32 := Scalar.remsi v159 c4_i32_134
  let c1_i32_139 : BitVec 32 := 1#32
  let v161 : BitVec 32 := Scalar.muli v160 c1_i32_139
  let v162 : BitVec 32 := Scalar.addi c0_i32_140 v161
  v162.toNat
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S1x4096, .f32⟩
  | .hbm, ⟨45, _⟩ => ⟨S4096x4096, .f32⟩
  | .hbm, ⟨46, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.KernelIdeal.Values.lean ====
/-
The contents of the layer-norm kernel's buffers, over any float values: what each device's block of `x` is, the
statistics a device computes of it, what the four slots of its statistics buffer come to hold, and the normalised
block it writes out. Everything is stated over the payloads of the kernel's skeleton; what the payloads are over the
reals is `Pointwise.lean`'s.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ln

open Cert.KernelIdeal Cert.KernelIdeal.Gen

open Idealize.ShloMosaic
open Idealize.ShloMosaic.TcCoe
open Idealize.SL Idealize.SL.Sem

variable {F : FTy → Type} [FloatOps F]

/-- The memory at launch: arbitrary contents, every semaphore counter zero, arbitrary generator registers. -/
def s₀ (m : (ℓ : Loc nD τ sig) → Buf (Elt F) ℓ) (ρ : Dev nD → PrngReg) : MemSt nD τ sig (Elt F) := ⟨m, fun _ => 0, ρ⟩

/-! ## The memrefs -/

abbrev xM : Memref sig .tc .hbm S4096x1024 .f32 := Memref.whole main_arg0
abbrev gM : Memref sig .tc .vmem S1024 .f32 := Memref.whole cc0_stg0_0
abbrev eM : Memref sig .tc .vmem S1024 .f32 := Memref.whole cc0_stg1_0
abbrev oM : Memref sig .tc .hbm S4096x1024 .f32 := Memref.whole main_v1
abbrev bM : Memref sig .tc .vmem S4096x1024 .f32 := Memref.whole cc0_scratch0
abbrev sM : Memref sig .tc .vmem S4x2x4096 .f32 := Memref.whole cc0_scratch1

/-- A row chunk lies inside the block, -/
theorem row_inb (b : Fin 8) : ∀ a, (![512 * b.val, 0] : Fin 2 → Nat) a + S512x1024.size a ≤ S4096x1024.size a := by
  revert b; decide
/-- and a slot inside the statistics buffer. -/
theorem slot_inb (s : Fin 4) : ∀ a, (![s.val, 0, 0] : Fin 3 → Nat) a + S1x2x4096.size a ≤ S4x2x4096.size a := by
  revert s; decide

/-- Rows `512 b … 512 b + 511` of a block. -/
abbrev rowR (b : Fin 8) : Rect S4096x1024 := Rect.unit (s := S4096x1024) ![512 * b.val, 0] S512x1024.size (row_inb b)
/-- Slot `s` of the statistics buffer. -/
abbrev slotR (s : Fin 4) : Rect S4x2x4096 := Rect.unit (s := S4x2x4096) ![s.val, 0, 0] S1x2x4096.size (slot_inb s)

/-- The memref of a row chunk, as the copies name it. -/
abbrev rowM {sp : Space} (M : Memref sig .tc sp S4096x1024 .f32) (b : Fin 8) : Memref sig .tc sp S512x1024 .f32 :=
  M.slice (rowR b) (fun _ => rfl)
/-- The memref of a slot, as the copies name it. -/
abbrev slotM (s : Fin 4) : Memref sig .tc .vmem S2x4096 .f32 :=
  (sM.slice (slotR s) (fun _ => rfl)).squeeze S2x4096 squeezes_S1x2x4096_S2x4096

/-! ## The contents -/

/-- The device `r` places after `c`. -/
def pk (c : Dev nD) (r : Fin 4) : Dev nD := ⟨(c.val + r.val) % 4, Nat.mod_lt _ (by decide)⟩

section Contents
variable (m : (ℓ : Loc nD τ sig) → Buf (Elt F) ℓ)

/-- Device `c`'s block of `x`, as launched. -/
def X (c : Dev nD) : Vec F S4096x1024 .f32 := m ((c : Thread nD τ).loc main_arg0)
/-- Rows `512 b …` of it, as the kernel loads them. -/
def xv (c : Dev nD) (b : Fin 8) : Vec F S512x1024 .f32 := bM.view.readAt (Elt F) (rowR b).toLoadRect (X m c)

/-- Device `c`'s statistics: each row's sum, each row's sum of squares. -/
def stV (c : Dev nD) : Vec F S1x2x4096 .f32 :=
  k0_pay13 (k0_pay1 (xv m c 0)) (k0_pay2 (xv m c 0)) (k0_pay3 (xv m c 1)) (k0_pay4 (xv m c 1)) (k0_pay5 (xv m c 2)) (k0_pay6 (xv m c 2))
    (k0_pay7 (xv m c 3)) (k0_pay8 (xv m c 3)) (k0_pay9 (xv m c 4)) (k0_pay10 (xv m c 4)) (k0_pay11 (xv m c 5)) (k0_pay12 (xv m c 5))
    (xv m c 6) (xv m c 7)

/-- A position of one slot from its row and column. -/
def inSlot (j : S4x2x4096.Idx) : S1x2x4096.Idx := fun
  | 0 => (0 : Fin 1)
  | 1 => (j 1 : Fin 2)
  | 2 => (j 2 : Fin 4096)

/-- What device `c`'s statistics buffer comes to hold: slot `s` the statistics of the device `s` places after it. -/
def ST (c : Dev nD) : Vec F S4x2x4096 .f32 := fun j => stV m (pk c (j 0)) (inSlot j)

/-- Slot `s` of it, as the kernel loads it. -/
def sv (c : Dev nD) (s : Fin 4) : Vec F S1x2x4096 .f32 := sM.view.readAt (Elt F) (slotR s).toLoadRect (ST m c)

/-- Device `c`'s block of `gamma`, and of `beta`, as staged. -/
def gv (c : Dev nD) : Vec F S1024 .f32 := (win0_0.blk (0 : Fin 1)).view.read (Elt F) (m ((c : Thread nD τ).loc main_arg1))
def ev (c : Dev nD) : Vec F S1024 .f32 := (win0_1.blk (0 : Fin 1)).view.read (Elt F) (m ((c : Thread nD τ).loc main_arg2))

end Contents

/-- The normalised rows `512 b …`, from the four slots, `gamma`, `beta` and the rows of `x`. -/
def outB (s0 s1 s2 s3 : Vec F S1x2x4096 .f32) (g e : Vec F S1024 .f32) (x : Vec F S512x1024 .f32) : Fin 8 → Vec F S512x1024 .f32 := fun
  | 0 => k0_pay21 (k0_pay19 s0 s1 s2 s3 g x) (k0_pay20 e)
  | 1 => k0_pay22 (k0_pay15 s0 s1 s2 s3) (k0_pay16 s0 s1 s2 s3) (k0_pay17 g) (k0_pay18 e) x
  | 2 => k0_pay25 (k0_pay18 e) (k0_pay23 (k0_pay15 s0 s1 s2 s3) (k0_pay16 s0 s1 s2 s3) x) (k0_pay24 (k0_pay17 g))
  | 3 => k0_pay26 (k0_pay15 s0 s1 s2 s3) (k0_pay16 s0 s1 s2 s3) (k0_pay17 g) (k0_pay18 e) x
  | 4 => k0_pay28 (k0_pay17 g) (k0_pay18 e) (k0_pay27 (k0_pay15 s0 s1 s2 s3) (k0_pay16 s0 s1 s2 s3) x)
  | 5 => k0_pay29 (k0_pay15 s0 s1 s2 s3) (k0_pay16 s0 s1 s2 s3) (k0_pay17 g) (k0_pay18 e) x
  | 6 => k0_pay32 (k0_pay17 g) (k0_pay18 e) (k0_pay30 (k0_pay16 s0 s1 s2 s3)) (k0_pay31 (k0_pay15 s0 s1 s2 s3) x)
  | 7 => k0_pay33 (k0_pay15 s0 s1 s2 s3) (k0_pay16 s0 s1 s2 s3) (k0_pay17 g) (k0_pay18 e) x

section Out
variable (m : (ℓ : Loc nD τ sig) → Buf (Elt F) ℓ)

/-- What device `c` writes to rows `512 b …` of its block of the result. -/
def ov (c : Dev nD) (b : Fin 8) : Vec F S512x1024 .f32 :=
  outB (sv m c 0) (sv m c 1) (sv m c 2) (sv m c 3) (gv m c) (ev m c) (xv m c b) b

/-- The chunk a row lies in, and its position there. -/
def chunkOf (j : S4096x1024.Idx) : Fin 8 := ⟨(j 0 : Fin 4096).val / 512, by have h : (j 0 : Fin 4096).val < 4096 := (j 0).isLt; omega⟩
def inChunk (j : S4096x1024.Idx) : S512x1024.Idx := fun
  | 0 => (⟨(j 0 : Fin 4096).val % 512, Nat.mod_lt _ (by decide)⟩ : Fin 512)
  | 1 => (j 1 : Fin 1024)

/-- Device `c`'s block of the result. -/
def Y (c : Dev nD) : Vec F S4096x1024 .f32 := fun j => ov m c (chunkOf j) (inChunk j)

end Out

/-! ## Reading a piece, writing a piece -/

section Pieces

/-- Position `j` of chunk `b` lies in chunk `b`, at position `j` of it. -/
theorem chunkOf_emb (b : Fin 8) (j : S512x1024.Idx) : chunkOf ((rowR b).emb j) = b := by
  have h : ((rowR b).emb j 0 : Fin 4096).val = 512 * b.val + 1 * (j 0 : Fin 512).val := rfl
  have h0 : (j 0 : Fin 512).val < 512 := (j 0).isLt
  refine Fin.ext ?_
  show ((rowR b).emb j 0 : Fin 4096).val / 512 = b.val
  omega
/-- and its place there the index it came from. -/
theorem inChunk_emb (b : Fin 8) (j : S512x1024.Idx) : inChunk ((rowR b).emb j) = j := by
  have h : ((rowR b).emb j 0 : Fin 4096).val = 512 * b.val + 1 * (j 0 : Fin 512).val := rfl
  have h1 : ((rowR b).emb j 1 : Fin 1024).val = 0 + 1 * (j 1 : Fin 1024).val := rfl
  have h0 : (j 0 : Fin 512).val < 512 := (j 0).isLt
  funext a; fin_cases a
  · refine Fin.ext ?_
    show ((rowR b).emb j 0 : Fin 4096).val % 512 = (j 0 : Fin 512).val
    omega
  · refine Fin.ext ?_
    show ((rowR b).emb j 1 : Fin 1024).val = (j 1 : Fin 1024).val
    omega

/-- The result's chunk `b` is what the device writes there. -/
theorem Y_emb (m : (ℓ : Loc nD τ sig) → Buf (Elt F) ℓ) (c : Dev nD) (b : Fin 8) (j : S512x1024.Idx) :
    Y m c ((rowR b).emb j) = ov m c b j := by
  unfold Y; rw [chunkOf_emb, inChunk_emb]

/-- An index of slot `s` has `s` as its first coordinate, -/
theorem slot_emb0 (s : Fin 4) (j : S1x2x4096.Idx) : ((slotR s).emb j 0 : Fin 4) = s := by
  have h : ((slotR s).emb j 0 : Fin 4).val = s.val + 1 * (j 0 : Fin 1).val := rfl
  have h0 : (j 0 : Fin 1).val < 1 := (j 0).isLt
  exact Fin.ext (by omega)
/-- and its place there is the index it came from. -/
theorem inSlot_emb (s : Fin 4) (j : S1x2x4096.Idx) : inSlot ((slotR s).emb j) = j := by
  have h1 : ((slotR s).emb j 1 : Fin 2).val = 0 + 1 * (j 1 : Fin 2).val := rfl
  have h2 : ((slotR s).emb j 2 : Fin 4096).val = 0 + 1 * (j 2 : Fin 4096).val := rfl
  have h0 : (j 0 : Fin 1).val < 1 := (j 0).isLt
  funext a; fin_cases a
  · refine Fin.ext ?_
    show 0 = (j 0 : Fin 1).val
    omega
  · refine Fin.ext ?_
    show ((slotR s).emb j 1 : Fin 2).val = (j 1 : Fin 2).val
    omega
  · refine Fin.ext ?_
    show ((slotR s).emb j 2 : Fin 4096).val = (j 2 : Fin 4096).val
    omega

/-- Slot `s` of device `c`'s buffer is the statistics of the device `s` places after it. -/
theorem ST_emb (m : (ℓ : Loc nD τ sig) → Buf (Elt F) ℓ) (c : Dev nD) (s : Fin 4) (j : S1x2x4096.Idx) :
    ST m c ((slotR s).emb j) = stV m (pk c s) j := by
  unfold ST
  rw [inSlot_emb]
  exact congrArg (fun r => stV m (pk c r) j) (slot_emb0 s j)

/-- What a device loads from slot `s` is the statistics of the device `s` places after it. -/
theorem sv_eq (m : (ℓ : Loc nD τ sig) → Buf (Elt F) ℓ) (c : Dev nD) (s : Fin 4) : sv m c s = stV m (pk c s) :=
  funext fun j => ST_emb m c s j

/-- The device no places after `c` is `c`. -/
theorem pk_zero (c : Dev nD) : pk c 0 = c := by revert c; decide

end Pieces

end Cert.KernelIdeal.Ln

end
-- ==== Proof.KernelIdeal.Protocol.lean ====
/-
The exchange of statistics between the four devices, as a schedule of rounds over any float values.

A device's barrier cell has three duties, one for each other device, of one unit each: the device `j + 1` places after
it pays duty `j`, and with it hands over the slot of its own statistics buffer the transfer coming back will land in, and
that it has reached round 0 of that slot's receive cell. A send cell has one duty, the credit of the transfer it counts,
which returns the share of the source lent to that transfer; a receive cell one duty, the same credit, which hands over
the slot filled with the sender's statistics.
-/
module

public import proofs.«01_k».proof.Proof.KernelIdeal.Values

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the exchange's rounds (duties named by three), the flights' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance
abbrev EC : UEmb Counters (MT nD τ sig Unit (Elt F) ℕ UU ℕ) := countersEmb

abbrev 𝒱₀ : Variants := Variants.none

/-! ## The devices and the slots of the exchange -/

/-- The slot, and the number of places, of peer `i`. -/
def sl (i : Fin 3) : Fin 4 := i.succ
/-- The device `i + 1` places after `c`. -/
def peer (c : Dev nD) (i : Fin 3) : Dev nD := pk c (sl i)

/-- The reversed peer of a peer is the device itself, -/
theorem peer_rev (c : Dev nD) (i : Fin 3) : peer (peer c i) i.rev = c := by revert c i; decide
/-- in either order; -/
theorem peer_rev' (c : Dev nD) (i : Fin 3) : peer (peer c i.rev) i = c := by revert c i; decide
/-- so the slot that a transfer fills is the one read as the sender's. -/
theorem pk_rev (c : Dev nD) (i : Fin 3) : pk (peer c i) (sl i.rev) = c := by revert c i; decide

/-- The devices the kernel names: of the three signals, of the three transfers. -/
theorem dev1_eq (c : Dev nD) : (⟨k0_dev1 c, k0_dev1_lt c⟩ : Dev nD) = peer c 0 := Fin.ext (k0_dev1_eq c)
/-- The devices named by the printed program are the peers. -/
theorem dev2_eq (c : Dev nD) : (⟨k0_dev2 c, k0_dev2_lt c⟩ : Dev nD) = peer c 1 := Fin.ext (k0_dev2_eq c)
/-- The device of the third signal. -/
theorem dev3_eq (c : Dev nD) : (⟨k0_dev3 c, k0_dev3_lt c⟩ : Dev nD) = peer c 2 := Fin.ext (k0_dev3_eq c)
/-- The device of the first transfer. -/
theorem dev4_eq (c : Dev nD) : (⟨k0_dev4 c, k0_dev4_lt c⟩ : Dev nD) = peer c 0 := Fin.ext (k0_dev4_eq c)
/-- The device of the second transfer. -/
theorem dev5_eq (c : Dev nD) : (⟨k0_dev5 c, k0_dev5_lt c⟩ : Dev nD) = peer c 1 := Fin.ext (k0_dev5_eq c)
/-- The device of the third transfer. -/
theorem dev6_eq (c : Dev nD) : (⟨k0_dev6 c, k0_dev6_lt c⟩ : Dev nD) = peer c 2 := Fin.ext (k0_dev6_eq c)

/-- Going round by `i + 1` places, as a permutation of the devices. -/
def turn (i : Fin 3) : Dev nD ≃ Dev nD := ⟨fun c => peer c i, fun c => peer c i.rev, fun c => peer_rev c i, fun c => peer_rev' c i⟩

/-! ## The cells -/

/-- The runtime's barrier semaphore, -/
abbrev barS : Sem sig := (SemArray.scalar (sig.barrier 0 rfl) : Sems sig S_).sem
/-- the semaphores counting the transfers out, -/
def sendQ : Fin 3 → DmaSem sig := fun | 0 => ⟨18, by decide⟩ | 1 => ⟨19, by decide⟩ | 2 => ⟨20, by decide⟩
/-- and those counting the transfers in. -/
def recvQ : Fin 3 → DmaSem sig := fun | 0 => ⟨22, by decide⟩ | 1 => ⟨23, by decide⟩ | 2 => ⟨24, by decide⟩

abbrev barCell (c : Dev nD) : GSem nD τ sig := ((c : Thread nD τ), .reg barS)
abbrev sendCell (c : Dev nD) (i : Fin 3) : GSem nD τ sig := ((c : Thread nD τ), .dma (sendQ i))
abbrev recvCell (c : Dev nD) (i : Fin 3) : GSem nD τ sig := ((c : Thread nD τ), .dma (recvQ i))

/-- All seven of a device's cells: barrier, sends, receives. -/
def csem : Fin 7 → SemLoc sig := fun
  | 0 => .reg barS | 1 => .dma (sendQ 0) | 2 => .dma (sendQ 1) | 3 => .dma (sendQ 2)
  | 4 => .dma (recvQ 0) | 5 => .dma (recvQ 1) | 6 => .dma (recvQ 2)
abbrev kcell (ck : Dev nD × Fin 7) : GSem nD τ sig := ((ck.1 : Thread nD τ), csem ck.2)
def kS (i : Fin 3) : Fin 7 := ⟨i.val + 1, by omega⟩
def kR (i : Fin 3) : Fin 7 := ⟨i.val + 4, by omega⟩
/-- A device's first cell is its barrier's, -/
theorem kcell_bar (c : Dev nD) : kcell (c, 0) = barCell c := rfl
/-- then come its send cells, -/
theorem kcell_send (c : Dev nD) (i : Fin 3) : kcell (c, kS i) = sendCell c i := by fin_cases i <;> rfl
/-- then its receive cells. -/
theorem kcell_recv (c : Dev nD) (i : Fin 3) : kcell (c, kR i) = recvCell c i := by fin_cases i <;> rfl

/-- What a semaphore is to the exchange. -/
inductive Role
  | bar | send (i : Fin 3) | recv (i : Fin 3) | other

def role (sm : SemLoc sig) : Role :=
  if sm = .reg barS then .bar
  else if sm = .dma (sendQ 0) then .send 0 else if sm = .dma (sendQ 1) then .send 1 else if sm = .dma (sendQ 2) then .send 2
  else if sm = .dma (recvQ 0) then .recv 0 else if sm = .dma (recvQ 1) then .recv 1 else if sm = .dma (recvQ 2) then .recv 2
  else .other

/-- The barrier semaphore's role, -/
theorem role_bar : role (.reg barS) = .bar := rfl
/-- a send semaphore's, -/
theorem role_send (i : Fin 3) : role (.dma (sendQ i)) = .send i := by fin_cases i <;> rfl
/-- and a receive semaphore's. -/
theorem role_recv (i : Fin 3) : role (.dma (recvQ i)) = .recv i := by fin_cases i <;> rfl

/-- The credit of one transfer. -/
abbrev N : ℕ := (slotM 0).view.dmaCredit
/-- A transfer's credit is positive. -/
theorem N_pos : 0 < N := View.dmaCredit_pos _ (by decide)

/-! ## The pieces held -/

/-- The rows `512 b …` of device `c`'s block of `x`, of its on-chip copy, of its block of the result. -/
abbrev xP (c : Dev nD) (b : Fin 8) (f : Vec F S4096x1024 .f32) : sProp 𝕄 :=
  (rowM xM b).view.loc (c : Thread nD τ) ↦[(rowM xM b).view.set]{fullShare} f
abbrev bP (c : Dev nD) (b : Fin 8) (f : Vec F S4096x1024 .f32) : sProp 𝕄 :=
  (rowM bM b).view.loc (c : Thread nD τ) ↦[(rowM bM b).view.set]{fullShare} f
abbrev oP (c : Dev nD) (b : Fin 8) (f : Vec F S4096x1024 .f32) : sProp 𝕄 :=
  (rowM oM b).view.loc (c : Thread nD τ) ↦[(rowM oM b).view.set]{fullShare} f
/-- Slot `s` of device `c`'s statistics buffer, at share `q`. -/
abbrev slotP (c : Dev nD) (s : Fin 4) (q : PosShare TreeShare) (f : Vec F S4x2x4096 .f32) : sProp 𝕄 :=
  (slotM s).view.loc (c : Thread nD τ) ↦[(slotM s).view.set]{q} f

/-- The shares of slot 0 lent to the three transfers; the fourth share is `keepQ`. -/
def lentQ : Fin 3 → PosShare TreeShare := fun | 0 => fullShare.left.right | 1 => fullShare.right.left | 2 => fullShare.right.right
abbrev keepQ : PosShare TreeShare := fullShare.left.left

omit [FloatOps F] in
/-- A slot held at the full share is the share kept and the three lent. -/
theorem slot_split (c : Dev nD) (s : Fin 4) (f : Vec F S4x2x4096 .f32) :
    slotP c s fullShare f ⊣⊢ (iprop(slotP c s keepQ f ∗ slotP c s (lentQ 0) f ∗ slotP c s (lentQ 1) f ∗ slotP c s (lentQ 2) f) : sProp 𝕄) := by
  have h := pointsTo_share (Ix := Unit) (Name := ℕ) (U := UU) (Lvl := ℕ) (ℓ := (slotM s).view.loc (c : Thread nD τ)) (I := (slotM s).view.set) (f := f)
    (PosShare.mem_left_op_right fullShare)
  have hl := pointsTo_share (Ix := Unit) (Name := ℕ) (U := UU) (Lvl := ℕ) (ℓ := (slotM s).view.loc (c : Thread nD τ)) (I := (slotM s).view.set) (f := f)
    (PosShare.mem_left_op_right fullShare.left)
  have hr := pointsTo_share (Ix := Unit) (Name := ℕ) (U := UU) (Lvl := ℕ) (ℓ := (slotM s).view.loc (c : Thread nD τ)) (I := (slotM s).view.set) (f := f)
    (PosShare.mem_left_op_right fullShare.right)
  constructor
  · refine h.1.trans ?_
    iintro ⟨Hl, Hr⟩
    ihave Hl := hl.1 $$ Hl
    ihave Hr := hr.1 $$ Hr
    icases Hl with ⟨Ha, Hb⟩
    icases Hr with ⟨Hc, Hd⟩
    isplitl [Ha]; · iexact Ha
    isplitl [Hb]; · iexact Hb
    isplitl [Hc]; · iexact Hc
    iexact Hd
  · iintro ⟨Ha, Hb, Hc, Hd⟩
    iapply h.2
    isplitl [Ha Hb]
    · iapply hl.2
      isplitl [Ha]; · iexact Ha
      iexact Hb
    · iapply hr.2
      isplitl [Hc]; · iexact Hc
      iexact Hd

section Sched
variable (m : (ℓ : Loc nD τ sig) → Buf (Elt F) ℓ)

/-! ## The schedule -/

/-- What peer `j`'s signal hands device `c`: the peer's slot that `c`'s transfer to it fills, and that the peer has
    reached round 0 of that slot's receive cell. -/
def barPay (c : Dev nD) (j : Fin 3) : sProp 𝕄 :=
  iprop((∃ f, slotP (peer c j) (sl j.rev) fullShare f) ∗ reached ER (recvCell (peer c j) j.rev) 0)
def sendPay (c : Dev nD) (i : Fin 3) : sProp 𝕄 := slotP c 0 (lentQ i) (ST m c)
def recvPay (c : Dev nD) (i : Fin 3) : sProp 𝕄 := slotP c (sl i) fullShare (ST m c)

def dutiesOf : Role → Finset (Fin 3)
  | .bar => Finset.univ
  | .send _ => {0}
  | .recv _ => {0}
  | .other => ∅
def amountOf : Role → ℕ
  | .bar => 1
  | _ => N
def payOf (c : Dev nD) (d : Fin 3) : Role → sProp 𝕄
  | .bar => barPay c d
  | .send i => sendPay m c i
  | .recv i => recvPay m c i
  | .other => iprop(emp)

/-- Every duty pays something. -/
theorem amountOf_pos (r : Role) : 0 < amountOf r := by
  cases r <;> first | exact Nat.one_pos | exact N_pos

/-- One round, round 0, on the tensor cores' cells. -/
def rd : Rounds.Schedule (GSem nD τ sig) (Fin 3) 𝕄 where
  duties g r := if r = 0 ∧ g.1.2 = .tc then dutiesOf (role g.2) else ∅
  unitless _ := False
  amount g _ _ := amountOf (role g.2)
  payload g _ d := payOf m g.1.1 d (role g.2)
  amount_pos g _ _ _ := amountOf_pos _

instance rd_payload_storable (g : GSem nD τ sig) (r : ℕ) (d : Fin 3) :
    BI.Storable (upEmb : UEmb _ 𝕄) ((rd (F := F) m).payload g r d) := by
  show BI.Storable upEmb (payOf m g.1.1 d (role g.2))
  cases role g.2 with
  | bar => show BI.Storable upEmb (barPay g.1.1 d); unfold barPay; infer_instance
  | send i => show BI.Storable upEmb (sendPay m g.1.1 i); unfold sendPay; infer_instance
  | recv i => show BI.Storable upEmb (recvPay m g.1.1 i); unfold recvPay; infer_instance
  | other => show BI.Storable upEmb (iprop(emp) : sProp 𝕄); infer_instance

variable (c : Dev nD)

/-- The duties of a cell's one round are those of its role: -/
theorem duties_tc (sm : SemLoc sig) : (rd (F := F) m).duties ((c : Thread nD τ), sm) 0 = dutiesOf (role sm) := by
  dsimp only [rd]; exact if_pos ⟨rfl, rfl⟩
/-- three for a barrier cell, -/
theorem duties_bar : (rd (F := F) m).duties (barCell c) 0 = Finset.univ := by rw [duties_tc, role_bar]; rfl
/-- one for a send cell, -/
theorem duties_send (i : Fin 3) : (rd (F := F) m).duties (sendCell c i) 0 = {0} := by rw [duties_tc, role_send]; rfl
/-- and one for a receive cell; -/
theorem duties_recv (i : Fin 3) : (rd (F := F) m).duties (recvCell c i) 0 = {0} := by rw [duties_tc, role_recv]; rfl
/-- later rounds have none. -/
theorem duties_later (g : GSem nD τ sig) : ∀ r, 1 ≤ r → (rd (F := F) m).duties g r = ∅ := fun r hr => if_neg fun h => by omega

/-- A duty of a barrier cell pays one unit, -/
theorem amount_bar (d : Fin 3) : (rd (F := F) m).amount (barCell c) 0 d = 1 := by dsimp only [rd]; rw [role_bar]; rfl
/-- a send cell's one transfer's credit, -/
theorem amount_send (i d : Fin 3) : (rd (F := F) m).amount (sendCell c i) 0 d = N := by dsimp only [rd]; rw [role_send]; rfl
/-- and so does a receive cell's. -/
theorem amount_recv (i d : Fin 3) : (rd (F := F) m).amount (recvCell c i) 0 d = N := by dsimp only [rd]; rw [role_recv]; rfl

/-- A barrier cell's round expects three units, -/
theorem expect_bar : (rd (F := F) m).expect (barCell c) 0 = 3 := by
  unfold Schedule.expect Schedule.amountOf
  rw [duties_bar, Finset.sum_congr rfl fun d _ => amount_bar m c d]; rfl
/-- a send cell's one transfer's credit, -/
theorem expect_send (i : Fin 3) : (rd (F := F) m).expect (sendCell c i) 0 = N := by
  unfold Schedule.expect Schedule.amountOf; rw [duties_send, Finset.sum_singleton, amount_send]
/-- and so does a receive cell's. -/
theorem expect_recv (i : Fin 3) : (rd (F := F) m).expect (recvCell c i) 0 = N := by
  unfold Schedule.expect Schedule.amountOf; rw [duties_recv, Finset.sum_singleton, amount_recv]

/-- What a duty of a barrier cell hands over, -/
theorem payload_bar (d : Fin 3) : (rd (F := F) m).payload (barCell c) 0 d = barPay c d := by dsimp only [rd]; rw [role_bar]; rfl
/-- of a send cell, -/
theorem payload_send (i d : Fin 3) : (rd (F := F) m).payload (sendCell c i) 0 d = sendPay m c i := by dsimp only [rd]; rw [role_send]; rfl
/-- and of a receive cell. -/
theorem payload_recv (i d : Fin 3) : (rd (F := F) m).payload (recvCell c i) 0 d = recvPay m c i := by dsimp only [rd]; rw [role_recv]; rfl

/-- All a barrier cell's round hands over, and a send's, and a receive's. -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide)]
  simp only [bigSepL_cons_cons, bigSepL_singleton, payload_bar]
  rfl
/-- All a send cell's round hands over, -/
theorem rest_send (i : Fin 3) :
    bigSep ((rd (F := F) m).duties (sendCell c i) 0 \ ∅) (fun d => (rd (F := F) m).payload (sendCell c i) 0 d) = sendPay m c i := by
  rw [Finset.sdiff_empty, duties_send, bigSep_singleton, payload_send]
/-- and a receive cell's. -/
theorem rest_recv (i : Fin 3) :
    bigSep ((rd (F := F) m).duties (recvCell c i) 0 \ ∅) (fun d => (rd (F := F) m).payload (recvCell c i) 0 d) = recvPay m c i := by
  rw [Finset.sdiff_empty, duties_recv, bigSep_singleton, payload_recv]

end Sched

/-! ## What a device owes, and the levels -/

/-- Still owed before the transfers `i …`: the credits of those transfers; -/
def OR2 (c : Dev nD) : CellTallies nD τ sig Unit := 0 + tallyAt (recvCell (peer c 2) (Fin.rev 2)) () N
def OR1 (c : Dev nD) : CellTallies nD τ sig Unit := OR2 c + tallyAt (recvCell (peer c 1) (Fin.rev 1)) () N
def OR0 (c : Dev nD) : CellTallies nD τ sig Unit := OR1 c + tallyAt (recvCell (peer c 0) (Fin.rev 0)) () N
/-- and, before the signals `i …`, the units of those signals too. -/
def OB2 (c : Dev nD) : CellTallies nD τ sig Unit := OR0 c + tallyAt (barCell (peer c 2)) () 1
def OB1 (c : Dev nD) : CellTallies nD τ sig Unit := OB2 c + tallyAt (barCell (peer c 1)) () 1
def O₀ (c : Dev nD) : CellTallies nD τ sig Unit := OB1 c + tallyAt (barCell (peer c 0)) () 1

def L (g : GSem nD τ sig) : Finset Unit := if g.1.2 = .tc then {()} else ∅
def lvOf : Role → ℕ
  | .bar => 1
  | .recv _ => 2
  | _ => 0
/-- Barrier cells at 1, receive cells at 2, every other at 0. -/
def lv (g : GSem nD τ sig) (_ : Unit) : ℕ := lvOf (role g.2)

/-- Only a TensorCore's cells have a level, -/
theorem L_of_ne (g : GSem nD τ sig) (h : g.1.2 ≠ .tc) : L g = ∅ := if_neg h
/-- and each of these has one. -/
theorem L_tc (c : Dev nD) (sm : SemLoc sig) : L ((c : Thread nD τ), sm) = {()} := if_pos rfl

/-- A device owes only receive cells before its transfers, -/
theorem OR0_pos {c : Dev nD} {g : GSem nD τ sig} {u : Unit} (h : 0 < OR0 c g u) : ∃ d i, g = recvCell d i := by
  unfold OR0 OR1 OR2 at h
  simp only [Pi.add_apply, Finsupp.add_apply, tallyAt_apply, Pi.zero_apply, Finsupp.zero_apply] at h
  by_contra hn
  push Not at hn
  simp only [hn, false_and, if_false] at h
  exact absurd h (by decide)
/-- and those and barrier cells at launch. -/
theorem O₀_pos {c : Dev nD} {g : GSem nD τ sig} {u : Unit} (h : 0 < O₀ c g u) : (∃ d i, g = recvCell d i) ∨ ∃ d, g = barCell d := by
  unfold O₀ OB1 OB2 at h
  simp only [Pi.add_apply, Finsupp.add_apply, tallyAt_apply, Pi.zero_apply, Finsupp.zero_apply] at h
  by_contra hn
  push Not at hn
  have h0 : OR0 c g u = 0 := Nat.eq_zero_of_not_pos fun h' => by obtain ⟨d, i, h''⟩ := OR0_pos h'; exact hn.1 d i h''
  simp only [hn.2, false_and, if_false, h0] at h
  exact absurd h (by decide)

/-- Barrier cells are at level 1, -/
theorem lv_bar (c : Dev nD) (u : Unit) : lv (barCell c) u = 1 := by unfold lv; rw [role_bar]; rfl
/-- receive cells at level 2. -/
theorem lv_recv (c : Dev nD) (i : Fin 3) (u : Unit) : lv (recvCell c i) u = 2 := by unfold lv; rw [role_recv]; rfl

/-- A cell at level 0 may be waited on whatever a device owes before its transfers. -/
theorem mayWait_low (c : Dev nD) (sm : SemLoc sig) (hsm : lvOf (role sm) = 0) (O : CellTallies nD τ sig Unit) (hO : O = O₀ c ∨ O = OR0 c ∨ O = 0) :
    (levAts L lv : sProp 𝕄) ⊢ MayWait (c : Thread nD τ) sm () O := by
  have key : ∀ O : CellTallies nD τ sig Unit, (∀ g u, 0 < O g u → (∃ d i, g = recvCell d i) ∨ ∃ d, g = barCell d) →
      (levAts L lv : sProp 𝕄) ⊢ MayWait (c : Thread nD τ) sm () O := fun O hpos =>
    MayOwe.of_cut (L := L) (lev := lv) 0 (fun p hp => by rw [Finset.mem_singleton.mp hp, L_tc]; exact Finset.mem_singleton_self _)
      (fun g u hg => by rcases hpos g u hg with ⟨d, i, rfl⟩ | ⟨d, rfl⟩ <;> exact Finset.mem_singleton_self _)
      (fun p hp => by rw [Finset.mem_singleton.mp hp]; exact le_of_eq hsm)
      (fun g u hg => by
        rcases hpos g u hg with ⟨d, i, rfl⟩ | ⟨d, rfl⟩
        · rw [lv_recv]; decide
        · rw [lv_bar]; decide)
  rcases hO with rfl | rfl | rfl
  · exact key _ fun g u h => O₀_pos h
  · exact key _ fun g u h => Or.inl (OR0_pos h)
  · rw [MayWait_zero]; iintro -; iempintro

/-- At its barrier a device owes receive cells only, which lie above it. -/
theorem mayWait_bar (c : Dev nD) : (levAts L lv : sProp 𝕄) ⊢ MayWait (c : Thread nD τ) (.reg barS) () (OR0 c) :=
  MayOwe.of_cut (L := L) (lev := lv) 1 (fun p hp => by rw [Finset.mem_singleton.mp hp, L_tc]; exact Finset.mem_singleton_self _)
    (fun g u hg => by obtain ⟨d, i, rfl⟩ := OR0_pos hg; exact Finset.mem_singleton_self _)
    (fun p hp => by rw [Finset.mem_singleton.mp hp]; exact le_of_eq (lv_bar c ()))
    (fun g u hg => by obtain ⟨d, i, rfl⟩ := OR0_pos hg; rw [lv_recv]; decide)

/-! ## What every device may read of the exchange -/

section Ghost
variable (m : (ℓ : Loc nD τ sig) → Buf (Elt F) ℓ)

/-- Every cell's invariant, under the names the launch gave them, and that every cell has reached round 0. -/
def records (K : Dev nD × Fin 7 → ℕ) : sProp 𝕄 :=
  iprop((bigSep Finset.univ fun ck : Dev nD × Fin 7 => cellInv ER (rd m) (K ck) (kcell ck))
    ∗ bigSep Finset.univ fun ck : Dev nD × Fin 7 => reached ER (kcell ck) 0)

instance records_persistent (K : Dev nD × Fin 7 → ℕ) : BI.Persistent (records m K) := by unfold records; infer_instance

/-- The records hold every cell's invariant, -/
theorem inv_at (K : Dev nD × Fin 7 → ℕ) (ck : Dev nD × Fin 7) : records m K ⊢ cellInv ER (rd m) (K ck) (kcell ck) := by
  have h : (bigSep Finset.univ fun ck : Dev nD × Fin 7 => (cellInv ER (rd m) (K ck) (kcell ck) : sProp 𝕄)) ⊢ cellInv ER (rd m) (K ck) (kcell ck) :=
    bigSep_elim (Finset.mem_univ ck)
  unfold records
  iintro ⟨H, -⟩
  iapply h; iexact H
/-- and that it has reached round 0: -/
theorem reached_at (K : Dev nD × Fin 7 → ℕ) (ck : Dev nD × Fin 7) : records m K ⊢ reached ER (kcell ck) 0 := by
  have h : (bigSep Finset.univ fun ck : Dev nD × Fin 7 => (reached ER (kcell ck) 0 : sProp 𝕄)) ⊢ reached ER (kcell ck) 0 :=
    bigSep_elim (Finset.mem_univ ck)
  unfold records
  iintro ⟨-, H⟩
  iapply h; iexact H

/-- the invariant of a barrier cell, -/
theorem inv_bar (K : Dev nD × Fin 7 → ℕ) (c : Dev nD) : records m K ⊢ cellInv ER (rd m) (K (c, 0)) (barCell c) := inv_at m K (c, 0)
/-- of a send cell, -/
theorem inv_send (K : Dev nD × Fin 7 → ℕ) (c : Dev nD) (i : Fin 3) : records m K ⊢ cellInv ER (rd m) (K (c, kS i)) (sendCell c i) := by
  rw [← kcell_send]; exact inv_at m K (c, kS i)
/-- of a receive cell; -/
theorem inv_recv (K : Dev nD × Fin 7 → ℕ) (c : Dev nD) (i : Fin 3) : records m K ⊢ cellInv ER (rd m) (K (c, kR i)) (recvCell c i) := by
  rw [← kcell_recv]; exact inv_at m K (c, kR i)
/-- the round of a barrier cell, -/
theorem reached_bar (K : Dev nD × Fin 7 → ℕ) (c : Dev nD) : records m K ⊢ reached ER (barCell c) 0 := reached_at m K (c, 0)
/-- of a send cell, -/
theorem reached_send (K : Dev nD × Fin 7 → ℕ) (c : Dev nD) (i : Fin 3) : records m K ⊢ reached ER (sendCell c i) 0 := by
  rw [← kcell_send]; exact reached_at m K (c, kS i)
/-- of a receive cell. -/
theorem reached_recv (K : Dev nD × Fin 7 → ℕ) (c : Dev nD) (i : Fin 3) : records m K ⊢ reached ER (recvCell c i) 0 := by
  rw [← kcell_recv]; exact reached_at m K (c, kR i)

end Ghost

end Cert.KernelIdeal.Ln

end
-- ==== Proof.KernelIdeal.Rules.lean ====
/-
One rule for each kind of effect in the kernel, over any float values: the copies of a row chunk in and out and their waits, the loads
and stores of a chunk, the loads and the store of a slot, the three transfers and the waits of the exchange.
-/
module

public import proofs.«01_k».proof.Proof.KernelIdeal.Protocol

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of device `c`'s core runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has returned runs to what holds of its result. -/
theorem done (c : Dev nD) {α : Type} {a : α} {Q : α → sProp 𝕄} : Q a ⊢ WP c (Prog.ret a) Q :=
  le_wp_ret _ _ _ a Q

/-- What device `c` owes, whatever it has waited on. -/
def ow (c : Dev nD) (O : CellTallies nD τ sig Unit) : sProp 𝕄 := iprop(∃ W, owes (c : Thread nD τ) O W)

/-! ## The views of the pieces -/

/-- The elements of a row chunk, -/
theorem row_set {sp : Space} (M : Memref sig .tc sp S4096x1024 .f32) (b : Fin 8) : (rowM M b).view.set = M.view.setOn (rowR b).set :=
  View.set_slice ..
/-- and of a slot, -/
theorem slot_set (s : Fin 4) : (slotM s).view.set = sM.view.setOn (slotR s).set :=
  (View.set_reshape (sM.view.slice (slotR s)) _).trans (View.set_slice ..)
/-- which are those that a load or store of the slot touches. -/
theorem slot_set' (s : Fin 4) : (slotM s).view.set = (sM.access (slotR s)).set := View.set_reshape (sM.view.slice (slotR s)) _

/-- What is written over a view and nothing else is any contents the view reads it off. -/
theorem write_pts {c : Dev nD} {sp : Space} {s : Shape} {e : EltTy} (v : View sig .tc sp s e) {q : PosShare TreeShare}
    (f g : Buf (Elt F) (v.loc (c : Thread nD τ))) {w : s.Idx → Elt F e} (h : v.read (Elt F) g = w) :
    (v.loc (c : Thread nD τ) ↦[v.set]{q} (v.write (Elt F) f w Finset.univ) : sProp 𝕄) = (v.loc (c : Thread nD τ) ↦[v.set]{q} g) := by
  subst h
  refine pointsTo_congr fun i hi => ?_
  obtain ⟨x, -, rfl⟩ := Finset.mem_map.mp hi
  refine (View.write_emb_of_mem (v := v) f _ (Finset.mem_univ x)).trans ?_
  rw [View.read_apply, cast_cast, cast_eq]

/-- A row chunk of `x` and of its copy read alike. -/
theorem read_rows (b : Fin 8) (f : Vec F S4096x1024 .f32) :
    (rowM bM b).view.read (Elt F) f = (rowM xM b).view.read (Elt F) f := rfl
/-- A row chunk of the result and of the on-chip copy read alike. -/
theorem read_rows' (b : Fin 8) (f : Vec F S4096x1024 .f32) :
    (rowM oM b).view.read (Elt F) f = (rowM bM b).view.read (Elt F) f := rfl
/-- The rows a device writes are the result's. -/
theorem read_Y (m : (ℓ : Loc nD τ sig) → Buf (Elt F) ℓ) (c : Dev nD) (b : Fin 8) : (rowM bM b).view.read (Elt F) (Y m c) = ov m c b :=
  funext fun j => Y_emb m c b j
/-- The slot a transfer fills reads what the sender's slot 0 reads. -/
theorem read_slot (m : (ℓ : Loc nD τ sig) → Buf (Elt F) ℓ) (c d : Dev nD) (s : Fin 4) (h : pk d s = c) :
    (slotM s).view.read (Elt F) (ST m d) = (slotM 0).view.read (Elt F) (ST m c) :=
  funext fun x => by
    show ST m d ((slotR s).emb (Shape.reshapeEquiv (Shape.Squeezes.numel_eq squeezes_S1x2x4096_S2x4096) x))
      = ST m c ((slotR 0).emb (Shape.reshapeEquiv (Shape.Squeezes.numel_eq squeezes_S1x2x4096_S2x4096) x))
    rw [ST_emb, ST_emb, h, pk_zero]

/-! ## The copies of a row chunk -/

/-- The semaphores counting the copies in, and the copies out. -/
def inQ (b : Fin 8) : DmaSem sig := ⟨2 + b.val, by have := b.isLt; show 2 + b.val < 25; omega⟩
def outQ (b : Fin 8) : DmaSem sig := ⟨10 + b.val, by have := b.isLt; show 10 + b.val < 25; omega⟩
/-- The semaphores of the copies in are at the lowest level. -/
theorem inQ_low (b : Fin 8) : lvOf (role (.dma (inQ b))) = 0 := by fin_cases b <;> rfl

/-- The credit of one chunk's copy. -/
abbrev NB : ℕ := (rowM bM 0).view.dmaCredit
/-- That credit is positive. -/
theorem NB_pos : 0 < NB := View.dmaCredit_pos _ (by decide)

section Ops
variable (m : (ℓ : Loc nD τ sig) → Buf (Elt F) ℓ) (c : Dev nD)

/-- A copy in under way: at its wait the chunk of the on-chip copy holds `x`'s, and `x`'s chunk is back. -/
def inFl (b : Fin 8) : sProp 𝕄 := Transfers.Flight EC (c : Thread nD τ) (.dma (inQ b)) () NB iprop(bP c b (X m c) ∗ xP c b (X m c))
/-- A copy out under way: at its wait the chunk of the result is written, and the chunk of the on-chip copy is back. -/
def outFl (b : Fin 8) : sProp 𝕄 := Transfers.Flight EC (c : Thread nD τ) (.dma (outQ b)) () NB iprop(oP c b (Y m c) ∗ bP c b (Y m c))

/-- The start of a copy in: it takes the chunk of `x` and of the on-chip copy. -/
theorem in_issue (b : Fin 8) {sm : DmaSem sig} (hq : sm = inQ b) {hsrc : (rowM xM b).view.WordExact} {hdst : (rowM bM b).view.WordExact}
    {hsem : DmaTarget.Typed (nD := nD) .hbm (.dma sm) (DmaTarget.here (nD := nD) (τ := τ) (sig := sig) (p := .tc) (rowM bM b))} {α : Type} {Q : α → sProp 𝕄}
    {k : PUnit → Prog (TpuEff nD τ sig (Elt F) Λ₀ .tc) α} :
    iprop(xP c b (X m c) ∗ (∃ f, bP c b f) ∗ semVal ((c : Thread nD τ), SemLoc.dma (inQ b)) 0)
      ⊢ iprop((inFl m c b -∗ WP c (k ⟨⟩) Q) -∗ WP c (.op (.enqueueDma (rowM xM b) (.here (rowM bM b)) (.dma sm) hsrc hdst hsem) k) Q) := by
  subst hq
  iintro ⟨Hx, ⟨%f, Hb⟩, Hv⟩ Hk
  iapply (Transfers.wp_dmaLocal EC 𝒱₀ (c : Thread nD τ) none (src := rowM xM b) (dst := rowM bM b) () NB rfl NB_pos (Finset.Subset.refl _)) $$ [Hx Hb Hv]
  · isplitl [Hx]; · iexact Hx
    isplitl [Hb]; · iexact Hb
    iexact Hv
  iintro Hfl
  iapply Hk
  unfold inFl
  iapply (Transfers.Flight_mono EC (c : Thread nD τ) (sep_mono_left (Entails.of_eq (write_pts (rowM bM b).view f (X m c)
    (w := ReadAs.same.apply ((rowM xM b).view.read (Elt F) (X m c))) rfl)))) $$ Hfl

/-- The wait for a copy in: the on-chip chunk holds `x`'s, and `x`'s is back. -/
theorem in_wait (b : Fin 8) {sm : DmaSem sig} (hq : sm = inQ b) {hsrc : (rowM xM b).view.WordExact} {hdst : (rowM bM b).view.WordExact}
    {α : Type} {Q : α → sProp 𝕄} {k : PUnit → Prog (TpuEff nD τ sig (Elt F) Λ₀ .tc) α} :
    iprop(inFl m c b ∗ ow c (OR0 c) ∗ levAts L lv)
      ⊢ iprop((iprop(bP c b (X m c) ∗ xP c b (X m c) ∗ semVal ((c : Thread nD τ), SemLoc.dma (inQ b)) 0 ∗ ow c (OR0 c)) -∗ WP c (k ⟨⟩) Q)
          -∗ WP c (.op (.waitDma2 sm (rowM xM b) (rowM bM b) hsrc hdst) k) Q) := by
  subst hq
  unfold inFl ow
  iintro ⟨Hfl, ⟨%W, HO⟩, Hlev⟩ Hk
  iapply (Transfers.wp_waitLocalO EC 𝒱₀ (c : Thread nD τ) none () rfl) $$ [Hfl HO Hlev]
  · isplitl [Hfl]; · iexact Hfl
    isplitl [HO]; · iexact HO
    iapply (mayWait_low (F := F) c (.dma (inQ b)) (inQ_low b) (OR0 c) (.inr (.inl rfl))); iexact Hlev
  iintro ⟨⟨Hb, Hx⟩, Hv, HO⟩
  iapply Hk
  isplitl [Hb]; · iexact Hb
  isplitl [Hx]; · iexact Hx
  isplitl [Hv]; · iexact Hv
  iexists _; iexact HO

/-- The start of a copy out: it takes the chunk of the on-chip copy, normalised, and of the result. -/
theorem out_issue (b : Fin 8) {sm : DmaSem sig} (hq : sm = outQ b) {hsrc : (rowM bM b).view.WordExact} {hdst : (rowM oM b).view.WordExact}
    {hsem : DmaTarget.Typed (nD := nD) .vmem (.dma sm) (DmaTarget.here (nD := nD) (τ := τ) (sig := sig) (p := .tc) (rowM oM b))} {α : Type} {Q : α → sProp 𝕄}
    {k : PUnit → Prog (TpuEff nD τ sig (Elt F) Λ₀ .tc) α} :
    iprop(bP c b (Y m c) ∗ (∃ f, oP c b f) ∗ semVal ((c : Thread nD τ), SemLoc.dma (outQ b)) 0)
      ⊢ iprop((outFl m c b -∗ WP c (k ⟨⟩) Q) -∗ WP c (.op (.enqueueDma (rowM bM b) (.here (rowM oM b)) (.dma sm) hsrc hdst hsem) k) Q) := by
  subst hq
  iintro ⟨Hx, ⟨%f, Hb⟩, Hv⟩ Hk
  iapply (Transfers.wp_dmaLocal EC 𝒱₀ (c : Thread nD τ) none (src := rowM bM b) (dst := rowM oM b) () NB rfl NB_pos (Finset.Subset.refl _)) $$ [Hx Hb Hv]
  · isplitl [Hx]; · iexact Hx
    isplitl [Hb]; · iexact Hb
    iexact Hv
  iintro Hfl
  iapply Hk
  unfold outFl
  iapply (Transfers.Flight_mono EC (c : Thread nD τ) (sep_mono_left (Entails.of_eq (write_pts (rowM oM b).view f (Y m c)
    (w := ReadAs.same.apply ((rowM bM b).view.read (Elt F) (Y m c))) rfl)))) $$ Hfl

/-- The wait for a copy out: the chunk of the result is written, and the on-chip one is back. -/
theorem out_wait (b : Fin 8) {sm : DmaSem sig} (hq : sm = outQ b) {hsrc : (rowM bM b).view.WordExact} {hdst : (rowM oM b).view.WordExact}
    {α : Type} {Q : α → sProp 𝕄} {k : PUnit → Prog (TpuEff nD τ sig (Elt F) Λ₀ .tc) α} :
    iprop(outFl m c b ∗ ow c 0)
      ⊢ iprop((iprop(oP c b (Y m c) ∗ bP c b (Y m c) ∗ semVal ((c : Thread nD τ), SemLoc.dma (outQ b)) 0 ∗ ow c 0) -∗ WP c (k ⟨⟩) Q)
          -∗ WP c (.op (.waitDma2 sm (rowM bM b) (rowM oM b) hsrc hdst) k) Q) := by
  subst hq
  unfold outFl ow
  iintro ⟨Hfl, ⟨%W, HO⟩⟩ Hk
  iapply (Transfers.wp_waitLocalO EC 𝒱₀ (c : Thread nD τ) none () rfl) $$ [Hfl HO]
  · isplitl [Hfl]; · iexact Hfl
    isplitl [HO]; · iexact HO
    rw [MayWait_zero]; iempintro
  iintro ⟨⟨Hb, Hx⟩, Hv, HO⟩
  iapply Hk
  isplitl [Hb]; · iexact Hb
  isplitl [Hx]; · iexact Hx
  isplitl [Hv]; · iexact Hv
  iexists _; iexact HO

/-! ## The loads and stores -/

/-- A load of a row chunk of the on-chip copy, whatever it holds. -/
theorem load_row (b : Fin 8) (f : Vec F S4096x1024 .f32) {hl : bM.view.LoadsAt (rowR b).toLoadRect} {α : Type} {Q : α → sProp 𝕄}
    {k : ((rowR b).toLoadRect.shape.Idx → Elt F .f32) → Prog (TpuEff nD τ sig (Elt F) Λ₀ .tc) α} :
    bP c b f ⊢ iprop((bP c b f -∗ WP c (k (bM.view.readAt (Elt F) (rowR b).toLoadRect f)) Q) -∗ WP c (.op (.load bM (rowR b).toLoadRect hl) k) Q) :=
  wp_load 𝒱₀ (c : Thread nD τ) none Set.univ (m := bM) (le_of_eq (row_set bM b).symm)

/-- A load of a row chunk of `x`. -/
theorem load_x (b : Fin 8) {hl : bM.view.LoadsAt (rowR b).toLoadRect} {α : Type} {Q : α → sProp 𝕄}
    {k : ((rowR b).toLoadRect.shape.Idx → Elt F .f32) → Prog (TpuEff nD τ sig (Elt F) Λ₀ .tc) α} :
    bP c b (X m c) ⊢ iprop((bP c b (X m c) -∗ WP c (k (xv m c b)) Q) -∗ WP c (.op (.load bM (rowR b).toLoadRect hl) k) Q) :=
  load_row c b (X m c)

/-- The store of a normalised chunk. -/
theorem store_row (b : Fin 8) (f : Vec F S4096x1024 .f32) {w : (rowR b).shape.Idx → Elt F .f32} (hw : w = ov m c b)
    {hx : (bM.access (rowR b)).Stores Finset.univ} {hm : Finset.univ = Finset.univ ∨ ∀ a, (rowR b).stride a = 1} {α : Type} {Q : α → sProp 𝕄}
    {k : PUnit → Prog (TpuEff nD τ sig (Elt F) Λ₀ .tc) α} :
    bP c b f ⊢ iprop((bP c b (Y m c) -∗ WP c (k ⟨⟩) Q) -∗ WP c (.op (.store bM (rowR b) w Finset.univ hx hm) k) Q) := by
  subst hw
  iintro Hb Hk
  iapply (wp_store 𝒱₀ (c : Thread nD τ) none Set.univ (m := bM) (r := rowR b) (Mk := Finset.univ) (S := (rowM bM b).view.set) (Finset.Subset.refl _)) $$ Hb
  iintro Hb
  iapply Hk
  iapply (Entails.of_eq (write_pts (rowM bM b).view f (Y m c) (read_Y m c b))) $$ Hb

/-- A load of a slot, at any share and whatever it holds. -/
theorem load_slot (s : Fin 4) (q : PosShare TreeShare) (f : Vec F S4x2x4096 .f32) {hl : sM.view.LoadsAt (slotR s).toLoadRect} {α : Type} {Q : α → sProp 𝕄}
    {k : ((slotR s).toLoadRect.shape.Idx → Elt F .f32) → Prog (TpuEff nD τ sig (Elt F) Λ₀ .tc) α} :
    slotP c s q f ⊢ iprop((slotP c s q f -∗ WP c (k (sM.view.readAt (Elt F) (slotR s).toLoadRect f)) Q) -∗ WP c (.op (.load sM (slotR s).toLoadRect hl) k) Q) :=
  wp_load 𝒱₀ (c : Thread nD τ) none Set.univ (m := sM) (le_of_eq (slot_set s).symm)

/-- A load of a slot filled with a device's statistics. -/
theorem load_sv (s : Fin 4) (q : PosShare TreeShare) {hl : sM.view.LoadsAt (slotR s).toLoadRect} {α : Type} {Q : α → sProp 𝕄}
    {k : ((slotR s).toLoadRect.shape.Idx → Elt F .f32) → Prog (TpuEff nD τ sig (Elt F) Λ₀ .tc) α} :
    slotP c s q (ST m c) ⊢ iprop((slotP c s q (ST m c) -∗ WP c (k (sv m c s)) Q) -∗ WP c (.op (.load sM (slotR s).toLoadRect hl) k) Q) :=
  load_slot c s q (ST m c)

/-- The whole of a vector of 1024 read through its one rectangle. -/
theorem read_vec (M : Memref sig .tc .vmem S1024 .f32) (f : Buf (Elt F) (M.view.loc (c : Thread nD τ))) :
    M.view.readAt (Elt F) (Rect.unit (s := S1024) ![0] S1024.size inb_S1024_S1024_0).toLoadRect f = M.view.read (Elt F) f := by
  funext j
  have e : (Rect.unit (s := S1024) ![0] S1024.size inb_S1024_S1024_0).toLoadRect.idx j = j := by
    funext a; fin_cases a; exact Fin.ext (by show 0 + 1 * (j 0).val = (j 0).val; omega)
  show M.view.read (Elt F) f _ = _
  exact congrArg _ e

/-- The loads of the staged `gamma` and `beta`. -/
theorem load_g (f : Vec F S1024 .f32) {hl : gM.view.LoadsAt (Rect.unit (s := S1024) ![0] S1024.size inb_S1024_S1024_0).toLoadRect} {α : Type} {Q : α → sProp 𝕄}
    {k : ((Rect.unit (s := S1024) ![0] S1024.size inb_S1024_S1024_0).toLoadRect.shape.Idx → Elt F .f32) → Prog (TpuEff nD τ sig (Elt F) Λ₀ .tc) α} :
    ((c : Thread nD τ).loc cc0_stg0_0 ↦{fullShare} f : sProp 𝕄)
      ⊢ iprop((((c : Thread nD τ).loc cc0_stg0_0 ↦{fullShare} f) -∗ WP c (k f) Q)
          -∗ WP c (.op (.load gM (Rect.unit (s := S1024) ![0] S1024.size inb_S1024_S1024_0).toLoadRect hl) k) Q) := by
  have e : gM.view.readAt (Elt F) (Rect.unit (s := S1024) ![0] S1024.size inb_S1024_S1024_0).toLoadRect f = f := read_vec c gM f
  iintro Hb Hk
  iapply (wp_load 𝒱₀ (c : Thread nD τ) none Set.univ (m := gM) (S := Finset.univ) (Finset.subset_univ _)) $$ Hb
  rw [e]; iexact Hk
/-- The load of the staged `beta`. -/
theorem load_e (f : Vec F S1024 .f32) {hl : eM.view.LoadsAt (Rect.unit (s := S1024) ![0] S1024.size inb_S1024_S1024_0).toLoadRect} {α : Type} {Q : α → sProp 𝕄}
    {k : ((Rect.unit (s := S1024) ![0] S1024.size inb_S1024_S1024_0).toLoadRect.shape.Idx → Elt F .f32) → Prog (TpuEff nD τ sig (Elt F) Λ₀ .tc) α} :
    ((c : Thread nD τ).loc cc0_stg1_0 ↦{fullShare} f : sProp 𝕄)
      ⊢ iprop((((c : Thread nD τ).loc cc0_stg1_0 ↦{fullShare} f) -∗ WP c (k f) Q)
          -∗ WP c (.op (.load eM (Rect.unit (s := S1024) ![0] S1024.size inb_S1024_S1024_0).toLoadRect hl) k) Q) := by
  have e : eM.view.readAt (Elt F) (Rect.unit (s := S1024) ![0] S1024.size inb_S1024_S1024_0).toLoadRect f = f := read_vec c eM f
  iintro Hb Hk
  iapply (wp_load 𝒱₀ (c : Thread nD τ) none Set.univ (m := eM) (S := Finset.univ) (Finset.subset_univ _)) $$ Hb
  rw [e]; iexact Hk

/-- The store of a device's own statistics in slot 0. -/
theorem store_slot (f : Vec F S4x2x4096 .f32) {w : (slotR 0).shape.Idx → Elt F .f32} (hw : w = stV m c)
    {hx : (sM.access (slotR 0)).Stores Finset.univ} {hm : Finset.univ = Finset.univ ∨ ∀ a, (slotR 0).stride a = 1} {α : Type} {Q : α → sProp 𝕄}
    {k : PUnit → Prog (TpuEff nD τ sig (Elt F) Λ₀ .tc) α} :
    slotP c 0 fullShare f ⊢ iprop((slotP c 0 fullShare (ST m c) -∗ WP c (k ⟨⟩) Q) -∗ WP c (.op (.store sM (slotR 0) w Finset.univ hx hm) k) Q) := by
  subst hw
  iintro Hb Hk
  iapply (wp_store 𝒱₀ (c : Thread nD τ) none Set.univ (m := sM) (r := slotR 0) (Mk := Finset.univ) (S := (slotM 0).view.set)
    (le_of_eq (slot_set' 0).symm)) $$ Hb
  iintro Hb
  iapply Hk
  have h : (sM.access (slotR 0)).read (Elt F) (ST m c) = stV m c := funext fun j => by
    show ST m c ((slotR 0).emb j) = _
    rw [ST_emb, pk_zero]
  have e := write_pts (F := F) (c := c) (q := fullShare) (sM.access (slotR 0)) f (ST m c) h
  rw [← slot_set' 0] at e
  iapply (Entails.of_eq e) $$ Hb

/-- The last steps of a row chunk: a load nothing is done with, the store of the normalised rows, their copy out. -/
theorem row_out (b : Fin 8) (f : Vec F S4096x1024 .f32) {w : (rowR b).shape.Idx → Elt F .f32} (hw : w = ov m c b) {sm : DmaSem sig} (hq : sm = outQ b)
    {hl : bM.view.LoadsAt (rowR b).toLoadRect}
    {hx : (bM.access (rowR b)).Stores Finset.univ} {hm : Finset.univ = Finset.univ ∨ ∀ a, (rowR b).stride a = 1}
    {hsrc : (rowM bM b).view.WordExact} {hdst : (rowM oM b).view.WordExact}
    {hsem : DmaTarget.Typed (nD := nD) .vmem (.dma sm) (DmaTarget.here (nD := nD) (τ := τ) (sig := sig) (p := .tc) (rowM oM b))} {α : Type} {Q : α → sProp 𝕄}
    {k : PUnit → Prog (TpuEff nD τ sig (Elt F) Λ₀ .tc) α} :
    iprop(bP c b f ∗ (∃ f, oP c b f) ∗ semVal ((c : Thread nD τ), SemLoc.dma (outQ b)) 0)
      ⊢ iprop((outFl m c b -∗ WP c (k ⟨⟩) Q)
          -∗ WP c (.op (.load bM (rowR b).toLoadRect hl) fun _ => .op (.store bM (rowR b) w Finset.univ hx hm) fun _ =>
              .op (.enqueueDma (rowM bM b) (.here (rowM oM b)) (.dma sm) hsrc hdst hsem) k) Q) := by
  iintro ⟨Hb, Ho, Hv⟩ Hk
  iapply (load_row c b f) $$ Hb; iintro Hb
  iapply (store_row m c b f hw) $$ Hb; iintro Hb
  iapply (out_issue m c b hq) $$ [Hb Ho Hv]
  · isplitl [Hb]; · iexact Hb
    isplitl [Ho]; · iexact Ho
    iexact Hv
  iexact Hk

end Ops

end Cert.KernelIdeal.Ln

end
-- ==== Proof.KernelIdeal.Exchange.lean ====
/-
The rules of the exchange of statistics, over any float values: a signal to a peer's barrier, the wait for all three signals, a
transfer of the statistics to a peer, and the waits for a transfer in and for a transfer out.
-/
module

public import proofs.«01_k».proof.Proof.KernelIdeal.Rules

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ops
variable (m : (ℓ : Loc nD τ sig) → Buf (Elt F) ℓ) (K : Dev nD × Fin 7 → ℕ) (c : Dev nD)

/-- The signal to peer `i`: it hands the peer slot `i + 1` of the device's own statistics buffer. -/
theorem signal (i : Fin 3) {d : Dev nD} (hd : d = peer c i) {n : ℕ} (hn : n = 1) (O : CellTallies nD τ sig Unit)
    {α : Type} {Q : α → sProp 𝕄} {k : PUnit → Prog (TpuEff nD τ sig (Elt F) Λ₀ .tc) α} :
    iprop(records m K ∗ ow c (O + tallyAt (barCell (peer c i)) () 1) ∗ dutyTok ER (barCell (peer c i)) 0 i.rev ∗ (∃ f, slotP c (sl i) fullShare f))
      ⊢ iprop((ow c O -∗ WP c (k ⟨⟩) Q) -∗ WP c (.op (.semSignal (d : Thread nD τ) barS n) k) Q) := by
  subst hd hn
  unfold ow
  iintro ⟨#HR, ⟨%W, HO⟩, Ht, Hs⟩ Hk
  iapply (Rounds.wp_signal 𝒱₀ ER (rd m) (c : Thread nD τ) none (dst := (peer c i : Thread nD τ)) (κ := K (peer c i, 0))
      (d := i.rev) (by rw [duties_bar]; exact Finset.mem_univ _) (amount_bar m (peer c i) i.rev) () O rfl) $$ [HO Ht Hs]
  · isplitr; · iapply (inv_bar m K (peer c i)); iexact HR
    isplitl [HO]; · iexact HO
    isplitl [Ht]; · iexact Ht
    isplitl [Hs]
    · rw [payload_bar]; unfold barPay; rw [peer_rev, Fin.rev_rev]
      isplitl [Hs]; · iexact Hs
      iapply (reached_recv m K c i); iexact HR
    · iapply (reached_bar m K (peer c i)); iexact HR
  iintro HO
  iapply Hk
  iexists W; iexact HO

/-- The wait for all three signals: every peer's slot for this device comes with it, and the barrier cell closes. -/
theorem bar_wait {n : ℕ} (hn : n = 3) {α : Type} {Q : α → sProp 𝕄} {k : PUnit → Prog (TpuEff nD τ sig (Elt F) Λ₀ .tc) α} :
    iprop(records m K ∗ levAts L lv ∗ ow c (OR0 c) ∗ cred (tallyAt (barCell c) () 3) ∗ atPos ER (barCell c) 0 ∅ 0)
      ⊢ iprop((iprop(ow c (OR0 c) ∗ semVal (barCell c) 0 ∗ (∃ f, slotP (peer c 0) (sl (Fin.rev 0)) fullShare f)
            ∗ (∃ f, slotP (peer c 1) (sl (Fin.rev 1)) fullShare f) ∗ (∃ f, slotP (peer c 2) (sl (Fin.rev 2)) fullShare f)) -∗ WP c (k ⟨⟩) Q)
          -∗ WP c (.op (.semWait barS n) k) Q) := by
  subst hn
  unfold ow
  iintro ⟨#HR, Hlev, ⟨%W, HO⟩, Hc, Hat⟩ Hk
  iapply (Rounds.wp_wait_rest_token 𝒱₀ ER (rd m) (c : Thread nD τ) none (κ := K (c, 0))
      (wpE_semWait_eq 𝒱₀ (c : Thread nD τ) none Set.univ) (Set.mem_univ _) () (O := OR0 c) (W := W) (R := 0) (m := 0) (T := ∅)
      (by rw [expect_bar])) $$ [Hc HO Hat Hlev]
  · isplitr; · iapply (inv_bar m K c); iexact HR
    isplitl [Hc]; · iexact Hc
    isplitl [HO]; · iexact HO
    isplitl [Hlev]; · iapply (mayWait_bar (F := F) c); iexact Hlev
    iexact Hat
  iintro ⟨HO, Hat, -, Hpay⟩
  ihave Hp := (Entails.of_eq (rest_bar m c)) $$ Hpay
  unfold barPay
  icases Hp with ⟨⟨H0, -⟩, ⟨H1, -⟩, ⟨H2, -⟩⟩
  imod (Rounds.cell_close ER (rd m) (Set.mem_univ (K (c, 0))) (fun h => h) (R := 0 + 1) (duties_later m (barCell c))) $$ [Hat] with Hz
  · isplitr; · iapply (inv_bar m K c); iexact HR
    iexact Hat
  iapply Hk
  isplitl [HO]; · iexists _; iexact HO
  isplitl [Hz]; · iexact Hz
  isplitl [H0]; · iexact H0
  isplitl [H1]; · iexact H1
  iexact H2

/-- Every slot has the one credit. -/
theorem slot_credit (s : Fin 4) (q : DmaSem sig) : (slotM s).view.amount (.dma q) = N := rfl

/-- What a transfer out returns is its send cell's payload, and what it fills its receive cell's. -/
theorem send_pay (i : Fin 3) : slotP c 0 (lentQ i) (ST m c) ⊢ (rd (F := F) m).payload (sendCell c i) 0 0 :=
  Entails.of_eq (payload_send m c i 0).symm
/-- What a transfer leaves in the slot it fills is the payload of that slot's receive cell. -/
theorem recv_pay (i : Fin 3) (f : Vec F S4x2x4096 .f32) :
    ((slotM (sl i.rev)).view.loc (peer c i : Thread nD τ) ↦[(slotM (sl i.rev)).view.set]{fullShare}
        ((slotM (sl i.rev)).view.write (Elt F) f ((slotM 0).view.read (Elt F) (ST m c)) Finset.univ))
      ⊢ (rd (F := F) m).payload (recvCell (peer c i) i.rev) 0 0 :=
  Entails.of_eq ((write_pts (F := F) (c := peer c i) (q := fullShare) (slotM (sl i.rev)).view f (ST m (peer c i))
    (read_slot m c (peer c i) (sl i.rev) (pk_rev c i))).trans (payload_recv m (peer c i) i.rev 0).symm)

/-- A transfer to peer `i`, by the cells' names. -/
theorem send_cells (i : Fin 3) (O : CellTallies nD τ sig Unit) {hsc : (slotM (sl i.rev)).view.ref.isScScratch = false}
    {hsrc : (slotM 0).view.WordExact} {hdst : (slotM (sl i.rev)).view.WordExact}
    {hsem : DmaTarget.Typed .vmem (.dma (recvQ i.rev)) (DmaTarget.remote (p := .tc) (peer c i : Thread nD τ) (slotM (sl i.rev)) (.dma (sendQ i)) hsc)}
    {α : Type} {Q : α → sProp 𝕄} {k : PUnit → Prog (TpuEff nD τ sig (Elt F) Λ₀ .tc) α} (f : Vec F S4x2x4096 .f32) (W : Waits sig Unit) :
    iprop(cellInv ER (rd m) (K (c, kS i)) (sendCell c i) ∗ cellInv ER (rd m) (K (peer c i, kR i.rev)) (recvCell (peer c i) i.rev)
        ∗ slotP c 0 (lentQ i) (ST m c) ∗ slotP (peer c i) (sl i.rev) fullShare f
        ∗ owes (c : Thread nD τ) (O + tallyAt (recvCell (peer c i) i.rev) () N) W
        ∗ dutyTok ER (sendCell c i) 0 0 ∗ reached ER (sendCell c i) 0
        ∗ dutyTok ER (recvCell (peer c i) i.rev) 0 0 ∗ reached ER (recvCell (peer c i) i.rev) 0)
      ⊢ iprop(((cred (tallyAt (sendCell c i) () N) ∗ owes (c : Thread nD τ) O W) -∗ WP c (k ⟨⟩) Q)
          -∗ WP c (.op (.enqueueDma (slotM 0) (.remote (peer c i : Thread nD τ) (slotM (sl i.rev)) (.dma (sendQ i)) hsc) (.dma (recvQ i.rev)) hsrc hdst hsem) k) Q) :=
  Rounds.wp_send_pointsTo 𝒱₀ ER (rd m) (c : Thread nD τ) none (c' := (peer c i : Thread nD τ)) (src := slotM 0) (dst := slotM (sl i.rev))
    (sS := .dma (sendQ i)) (sem := .dma (recvQ i.rev)) (κ₁ := K (c, kS i)) (κ₂ := K (peer c i, kR i.rev))
    (r₁ := 0) (r₂ := 0) (d₁ := 0) (d₂ := 0) (fs := ST m c) (fd := f) (q := lentQ i)
    (by rw [duties_send]; exact Finset.mem_singleton_self _) (by rw [duties_recv]; exact Finset.mem_singleton_self _)
    () () N (slot_credit _ _) (amount_send m c i 0) (amount_recv m (peer c i) i.rev 0) O rfl (W := W)
    (by exact send_pay m c i) (by exact recv_pay m c i f)

/-- The transfer to peer `i`: slot 0's contents into the peer's slot, for the share lent to it. -/
theorem send (i : Fin 3) {s : Fin 4} (hs : s = sl i.rev) {d : Dev nD} (hd : d = peer c i) {qs qr : DmaSem sig} (hqs : qs = sendQ i) (hqr : qr = recvQ i.rev)
    (O : CellTallies nD τ sig Unit) {hsc : (slotM s).view.ref.isScScratch = false}
    {hsrc : (slotM 0).view.WordExact} {hdst : (slotM s).view.WordExact}
    {hsem : DmaTarget.Typed .vmem (.dma qr) (DmaTarget.remote (p := .tc) (d : Thread nD τ) (slotM s) (.dma qs) hsc)}
    {α : Type} {Q : α → sProp 𝕄} {k : PUnit → Prog (TpuEff nD τ sig (Elt F) Λ₀ .tc) α} :
    iprop(records m K ∗ slotP c 0 (lentQ i) (ST m c) ∗ (∃ f, slotP (peer c i) (sl i.rev) fullShare f)
        ∗ ow c (O + tallyAt (recvCell (peer c i) i.rev) () N)
        ∗ dutyTok ER (sendCell c i) 0 0 ∗ dutyTok ER (recvCell (peer c i) i.rev) 0 0)
      ⊢ iprop((iprop(cred (tallyAt (sendCell c i) () N) ∗ ow c O) -∗ WP c (k ⟨⟩) Q)
          -∗ WP c (.op (.enqueueDma (slotM 0) (.remote (d : Thread nD τ) (slotM s) (.dma qs) hsc) (.dma qr) hsrc hdst hsem) k) Q) := by
  subst hs hd hqs hqr
  unfold ow
  iintro ⟨#HR, Hx, ⟨%f, Hd⟩, ⟨%W, HO⟩, HtS, HtR⟩ Hk
  iapply (send_cells m K c i O f W) $$ [Hx Hd HO HtS HtR]
  · isplitr; · iapply (inv_send m K c i); iexact HR
    isplitr; · iapply (inv_recv m K (peer c i) i.rev); iexact HR
    isplitl [Hx]; · iexact Hx
    isplitl [Hd]; · iexact Hd
    isplitl [HO]; · iexact HO
    isplitl [HtS]; · iexact HtS
    isplitr; · iapply (reached_send m K c i); iexact HR
    isplitl [HtR]; · iexact HtR
    iapply (reached_recv m K (peer c i) i.rev); iexact HR
  iintro ⟨Hc, HO⟩
  iapply Hk
  isplitl [Hc]; · iexact Hc
  iexists W; iexact HO

/-- The wait for the transfer into slot `i + 1`: the slot filled, and the receive cell closed. -/
theorem recv_wait (i : Fin 3) {q : DmaSem sig} (hq : q = recvQ i) {s : Fin 4}
    {hsrc : (slotM 0).view.WordExact} {hdst : (slotM s).view.WordExact}
    {α : Type} {Q : α → sProp 𝕄} {k : PUnit → Prog (TpuEff nD τ sig (Elt F) Λ₀ .tc) α} :
    iprop(records m K ∗ ow c 0 ∗ cred (tallyAt (recvCell c i) () N) ∗ atPos ER (recvCell c i) 0 ∅ 0)
      ⊢ iprop((iprop(ow c 0 ∗ semVal (recvCell c i) 0 ∗ slotP c (sl i) fullShare (ST m c)) -∗ WP c (k ⟨⟩) Q)
          -∗ WP c (.op (.waitDma2 q (slotM 0) (slotM s) hsrc hdst) k) Q) := by
  subst hq
  unfold ow
  iintro ⟨#HR, ⟨%W, HO⟩, Hc, Hat⟩ Hk
  iapply (Rounds.wp_wait_rest_token 𝒱₀ ER (rd m) (c : Thread nD τ) none (κ := K (c, kR i))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K c i); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c i)) $$ Hpay
  unfold recvPay
  imod (Rounds.cell_close ER (rd m) (Set.mem_univ (K (c, kR i))) (fun h => h) (R := 0 + 1) (duties_later m (recvCell c i))) $$ [Hat] with Hz
  · isplitr; · iapply (inv_recv m K c i); iexact HR
    iexact Hat
  iapply Hk
  isplitl [HO]; · iexists _; iexact HO
  isplitl [Hz]; · iexact Hz
  iexact Hp

/-- The wait for the transfer to peer `i`: the share of slot 0 lent to it is back, and the send cell closed. -/
theorem send_wait (i : Fin 3) {q : DmaSem sig} (hq : q = sendQ i) {s : Fin 4}
    {hsrc : (slotM s).view.WordExact} {hdst : (slotM 0).view.WordExact}
    {α : Type} {Q : α → sProp 𝕄} {k : PUnit → Prog (TpuEff nD τ sig (Elt F) Λ₀ .tc) α} :
    iprop(records m K ∗ ow c 0 ∗ cred (tallyAt (sendCell c i) () N) ∗ atPos ER (sendCell c i) 0 ∅ 0)
      ⊢ iprop((iprop(ow c 0 ∗ semVal (sendCell c i) 0 ∗ slotP c 0 (lentQ i) (ST m c)) -∗ WP c (k ⟨⟩) Q)
          -∗ WP c (.op (.waitDma2 q (slotM s) (slotM 0) hsrc hdst) k) Q) := by
  subst hq
  unfold ow
  iintro ⟨#HR, ⟨%W, HO⟩, Hc, Hat⟩ Hk
  iapply (Rounds.wp_wait_rest_token 𝒱₀ ER (rd m) (c : Thread nD τ) none (κ := K (c, kS i))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K c i); iexact HR
    isplitl [Hc]; · iexact Hc
    isplitl [HO]; · iexact HO
    isplitr; · rw [MayWait_zero]; iempintro
    iexact Hat
  iintro ⟨HO, Hat, -, Hpay⟩
  ihave Hp := (Entails.of_eq (rest_send m c i)) $$ Hpay
  unfold sendPay
  imod (Rounds.cell_close ER (rd m) (Set.mem_univ (K (c, kS i))) (fun h => h) (R := 0 + 1) (duties_later m (sendCell c i))) $$ [Hat] with Hz
  · isplitr; · iapply (inv_send m K c i); iexact HR
    iexact Hat
  iapply Hk
  isplitl [HO]; · iexists _; iexact HO
  isplitl [Hz]; · iexact Hz
  iexact Hp

end Ops

end Cert.KernelIdeal.Ln

end
-- ==== Proof.KernelIdeal.Parts1.lean ====
/-
The kernel's first five parts, over any float values: the signals, the copies in, the statistics of the device's own rows, the
barrier.
-/
module

public import proofs.«01_k».proof.Proof.KernelIdeal.Exchange

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A copy in not yet issued: `x`'s chunk, the on-chip chunk, the counter at zero. -/
def inP (m : (ℓ : Loc nD τ sig) → Buf (Elt F) ℓ) (c : Dev nD) (b : Fin 8) : sProp 𝕄 :=
  iprop(xP c b (X m c) ∗ (∃ f, bP c b f) ∗ semVal ((c : Thread nD τ), SemLoc.dma (inQ b)) 0)
/-- A copy in waited for: `x`'s chunk on chip, `x`'s chunk, the counter at zero. -/
def inD (m : (ℓ : Loc nD τ sig) → Buf (Elt F) ℓ) (c : Dev nD) (b : Fin 8) : sProp 𝕄 :=
  iprop(bP c b (X m c) ∗ xP c b (X m c) ∗ semVal ((c : Thread nD τ), SemLoc.dma (inQ b)) 0)

section Parts
variable (m : (ℓ : Loc nD τ sig) → Buf (Elt F) ℓ) (K : Dev nD × Fin 7 → ℕ) (c : Dev nD)

/-- The signals to the three peers and the first two copies in. -/
theorem part1 {Q : (Σ' (d0 : Dev nD) (v2 : BitVec 32), Sems sig S_) → sProp 𝕄} :
    iprop(records m K ∗ ow c (O₀ c)
        ∗ (dutyTok ER (barCell (peer c 0)) 0 (Fin.rev 0) ∗ dutyTok ER (barCell (peer c 1)) 0 (Fin.rev 1) ∗ dutyTok ER (barCell (peer c 2)) 0 (Fin.rev 2))
        ∗ ((∃ f, slotP c (sl 0) fullShare f) ∗ (∃ f, slotP c (sl 1) fullShare f) ∗ (∃ f, slotP c (sl 2) fullShare f))
        ∗ inP m c 0 ∗ inP m c 1
        ∗ (iprop(ow c (OR0 c) ∗ inFl m c 0 ∗ inFl m c 1)
            -∗ Q ⟨c, Scalar.remsi (Scalar.divsi (Dev.word c) 1#32) 4#32, SemArray.scalar (sig.barrier 0 rfl)⟩))
      ⊢ WP c (k0_part1 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [k0_part1_eq_skeleton]; unfold k0_part1_skel
  simp only [semSignalWord, Prog.lift, Prog.bind_op, Prog.bind_ret, Prog.pure_eq_ret, wp_deviceId]
  unfold O₀ OB1 OB2 inP
  iintro ⟨#HR, HO, ⟨Ht0, Ht1, Ht2⟩, ⟨Hs0, Hs1, Hs2⟩, Hi0, Hi1, Hk⟩
  iapply (signal m K c 0 (dev1_eq c) rfl _) $$ [HO Ht0 Hs0]
  · isplitr; · iexact HR
    isplitl [HO]; · iexact HO
    isplitl [Ht0]; · iexact Ht0
    iexact Hs0
  iintro HO
  iapply (signal m K c 1 (dev2_eq c) rfl _) $$ [HO Ht1 Hs1]
  · isplitr; · iexact HR
    isplitl [HO]; · iexact HO
    isplitl [Ht1]; · iexact Ht1
    iexact Hs1
  iintro HO
  iapply (signal m K c 2 (dev3_eq c) rfl _) $$ [HO Ht2 Hs2]
  · isplitr; · iexact HR
    isplitl [HO]; · iexact HO
    isplitl [Ht2]; · iexact Ht2
    iexact Hs2
  iintro HO
  iapply (in_issue m c 0 rfl) $$ Hi0; iintro Hi0
  iapply (in_issue m c 1 rfl) $$ Hi1; iintro Hi1
  iapply (done c); iapply Hk
  isplitl [HO]; · iexact HO
  isplitl [Hi0]; · iexact Hi0
  iexact Hi1

/-- The other six copies in. -/
theorem part2 {Q : PUnit → sProp 𝕄} :
    iprop(inP m c 2 ∗ inP m c 3 ∗ inP m c 4 ∗ inP m c 5 ∗ inP m c 6 ∗ inP m c 7
        ∗ (iprop(inFl m c 2 ∗ inFl m c 3 ∗ inFl m c 4 ∗ inFl m c 5 ∗ inFl m c 6 ∗ inFl m c 7) -∗ Q ⟨⟩))
      ⊢ WP c (k0_part2 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [k0_part2_eq_skeleton]; unfold k0_part2_skel
  simp only [semWaitWord, Prog.lift, Prog.bind_op, Prog.bind_ret, Prog.pure_eq_ret]
  unfold inP
  iintro ⟨Hi2, Hi3, Hi4, Hi5, Hi6, Hi7, Hk⟩
  iapply (in_issue m c 2 rfl) $$ Hi2; iintro Hi2
  iapply (in_issue m c 3 rfl) $$ Hi3; iintro Hi3
  iapply (in_issue m c 4 rfl) $$ Hi4; iintro Hi4
  iapply (in_issue m c 5 rfl) $$ Hi5; iintro Hi5
  iapply (in_issue m c 6 rfl) $$ Hi6; iintro Hi6
  iapply (in_issue m c 7 rfl) $$ Hi7; iintro Hi7
  iapply (done c); iapply Hk
  isplitl [Hi2]; · iexact Hi2
  isplitl [Hi3]; · iexact Hi3
  isplitl [Hi4]; · iexact Hi4
  isplitl [Hi5]; · iexact Hi5
  isplitl [Hi6]; · iexact Hi6
  iexact Hi7

/-- The waits for chunks 0, 1 and 2, and their rows' sums. -/
theorem part3 {Q : (Σ' (_ : FVec F S512x1 .f32) (_ : FVec F S512x1 .f32) (_ : FVec F S512x1 .f32) (_ : FVec F S512x1 .f32) (_ : FVec F S512x1 .f32), FVec F S512x1 .f32) → sProp 𝕄} :
    iprop(levAts L lv ∗ ow c (OR0 c) ∗ inFl m c 0 ∗ inFl m c 1 ∗ inFl m c 2
        ∗ (iprop(ow c (OR0 c) ∗ inD m c 0 ∗ inD m c 1 ∗ inD m c 2) -∗ Q ⟨k0_pay1 (xv m c 0), k0_pay2 (xv m c 0), k0_pay3 (xv m c 1), k0_pay4 (xv m c 1), k0_pay5 (xv m c 2), k0_pay6 (xv m c 2)⟩))
      ⊢ WP c (k0_part3 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [k0_part3_eq_skeleton]; unfold k0_part3_skel
  simp only [semWaitWord, Prog.lift, Prog.bind_op, Prog.bind_ret, Prog.pure_eq_ret]
  unfold inD
  iintro ⟨#HL, HO, Hi0, Hi1, Hi2, Hk⟩
  iapply (in_wait m c 0 rfl) $$ [Hi0 HO]
  · isplitl [Hi0]; · iexact Hi0
    isplitl [HO]; · iexact HO
    iexact HL
  iintro ⟨Hb0, Hx0, Hv0, HO⟩
  iapply (load_x m c 0) $$ Hb0; iintro Hb0
  iapply (in_wait m c 1 rfl) $$ [Hi1 HO]
  · isplitl [Hi1]; · iexact Hi1
    isplitl [HO]; · iexact HO
    iexact HL
  iintro ⟨Hb1, Hx1, Hv1, HO⟩
  iapply (load_x m c 1) $$ Hb1; iintro Hb1
  iapply (in_wait m c 2 rfl) $$ [Hi2 HO]
  · isplitl [Hi2]; · iexact Hi2
    isplitl [HO]; · iexact HO
    iexact HL
  iintro ⟨Hb2, Hx2, Hv2, HO⟩
  iapply (load_x m c 2) $$ Hb2; iintro Hb2
  iapply (done c); iapply Hk
  isplitl [HO]; · iexact HO
  isplitl [Hb0 Hx0 Hv0]
  · isplitl [Hb0]; · iexact Hb0
    isplitl [Hx0]; · iexact Hx0
    iexact Hv0
  isplitl [Hb1 Hx1 Hv1]
  · isplitl [Hb1]; · iexact Hb1
    isplitl [Hx1]; · iexact Hx1
    iexact Hv1
  isplitl [Hb2]; · iexact Hb2
  isplitl [Hx2]; · iexact Hx2
  iexact Hv2

/-- The waits for chunks 3, 4 and 5, and their rows' sums. -/
theorem part4 {Q : (Σ' (_ : FVec F S512x1 .f32) (_ : FVec F S512x1 .f32) (_ : FVec F S512x1 .f32) (_ : FVec F S512x1 .f32) (_ : FVec F S512x1 .f32), FVec F S512x1 .f32) → sProp 𝕄} :
    iprop(levAts L lv ∗ ow c (OR0 c) ∗ inFl m c 3 ∗ inFl m c 4 ∗ inFl m c 5
        ∗ (iprop(ow c (OR0 c) ∗ inD m c 3 ∗ inD m c 4 ∗ inD m c 5) -∗ Q ⟨k0_pay7 (xv m c 3), k0_pay8 (xv m c 3), k0_pay9 (xv m c 4), k0_pay10 (xv m c 4), k0_pay11 (xv m c 5), k0_pay12 (xv m c 5)⟩))
      ⊢ WP c (k0_part4 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [k0_part4_eq_skeleton]; unfold k0_part4_skel
  simp only [semWaitWord, Prog.lift, Prog.bind_op, Prog.bind_ret, Prog.pure_eq_ret]
  unfold inD
  iintro ⟨#HL, HO, Hi3, Hi4, Hi5, Hk⟩
  iapply (in_wait m c 3 rfl) $$ [Hi3 HO]
  · isplitl [Hi3]; · iexact Hi3
    isplitl [HO]; · iexact HO
    iexact HL
  iintro ⟨Hb3, Hx3, Hv3, HO⟩
  iapply (load_x m c 3) $$ Hb3; iintro Hb3
  iapply (in_wait m c 4 rfl) $$ [Hi4 HO]
  · isplitl [Hi4]; · iexact Hi4
    isplitl [HO]; · iexact HO
    iexact HL
  iintro ⟨Hb4, Hx4, Hv4, HO⟩
  iapply (load_x m c 4) $$ Hb4; iintro Hb4
  iapply (in_wait m c 5 rfl) $$ [Hi5 HO]
  · isplitl [Hi5]; · iexact Hi5
    isplitl [HO]; · iexact HO
    iexact HL
  iintro ⟨Hb5, Hx5, Hv5, HO⟩
  iapply (load_x m c 5) $$ Hb5; iintro Hb5
  iapply (done c); iapply Hk
  isplitl [HO]; · iexact HO
  isplitl [Hb3 Hx3 Hv3]
  · isplitl [Hb3]; · iexact Hb3
    isplitl [Hx3]; · iexact Hx3
    iexact Hv3
  isplitl [Hb4 Hx4 Hv4]
  · isplitl [Hb4]; · iexact Hb4
    isplitl [Hx4]; · iexact Hx4
    iexact Hv4
  isplitl [Hb5]; · iexact Hb5
  isplitl [Hx5]; · iexact Hx5
  iexact Hv5

/-- The waits for the last two chunks, the statistics stored in slot 0, and the barrier. -/
theorem part5 {Q : (Σ' (_ : BitVec 32), BitVec 32) → sProp 𝕄} (v2 : BitVec 32) :
    iprop(records m K ∗ levAts L lv ∗ ow c (OR0 c) ∗ inFl m c 6 ∗ inFl m c 7 ∗ (∃ f, slotP c 0 fullShare f)
        ∗ cred (tallyAt (barCell c) () 3) ∗ atPos ER (barCell c) 0 ∅ 0
        ∗ (∀ r, iprop(ow c (OR0 c) ∗ inD m c 6 ∗ inD m c 7 ∗ slotP c 0 fullShare (ST m c) ∗ semVal (barCell c) 0
            ∗ (∃ f, slotP (peer c 0) (sl (Fin.rev 0)) fullShare f) ∗ (∃ f, slotP (peer c 1) (sl (Fin.rev 1)) fullShare f)
            ∗ (∃ f, slotP (peer c 2) (sl (Fin.rev 2)) fullShare f)) -∗ Q r))
      ⊢ WP c (k0_part5 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5 v2 (SemArray.scalar (sig.barrier 0 rfl))
          (k0_pay1 (xv m c 0)) (k0_pay2 (xv m c 0)) (k0_pay3 (xv m c 1)) (k0_pay4 (xv m c 1)) (k0_pay5 (xv m c 2)) (k0_pay6 (xv m c 2)) (k0_pay7 (xv m c 3)) (k0_pay8 (xv m c 3)) (k0_pay9 (xv m c 4)) (k0_pay10 (xv m c 4)) (k0_pay11 (xv m c 5)) (k0_pay12 (xv m c 5))) Q := by
  rw [k0_part5_eq_skeleton]; unfold k0_part5_skel
  simp only [semWaitWord, Prog.lift, Prog.bind_op, Prog.bind_ret, Prog.pure_eq_ret]
  unfold inD
  iintro ⟨#HR, #HL, HO, Hi6, Hi7, ⟨%f, Hs⟩, Hc, Hat, Hk⟩
  iapply (in_wait m c 6 rfl) $$ [Hi6 HO]
  · isplitl [Hi6]; · iexact Hi6
    isplitl [HO]; · iexact HO
    iexact HL
  iintro ⟨Hb6, Hx6, Hv6, HO⟩
  iapply (load_x m c 6) $$ Hb6; iintro Hb6
  iapply (in_wait m c 7 rfl) $$ [Hi7 HO]
  · isplitl [Hi7]; · iexact Hi7
    isplitl [HO]; · iexact HO
    iexact HL
  iintro ⟨Hb7, Hx7, Hv7, HO⟩
  iapply (load_x m c 7) $$ Hb7; iintro Hb7
  iapply (load_slot c 0 fullShare f) $$ Hs; iintro Hs
  iapply (store_slot m c f rfl) $$ Hs; iintro Hs
  iapply (bar_wait m K c rfl) $$ [HO Hc Hat]
  · isplitr; · iexact HR
    isplitr; · iexact HL
    isplitl [HO]; · iexact HO
    isplitl [Hc]; · iexact Hc
    iexact Hat
  iintro ⟨HO, Hz, H0, H1, H2⟩
  iapply (done c); iapply Hk
  isplitl [HO]; · iexact HO
  isplitl [Hb6 Hx6 Hv6]
  · isplitl [Hb6]; · iexact Hb6
    isplitl [Hx6]; · iexact Hx6
    iexact Hv6
  isplitl [Hb7 Hx7 Hv7]
  · isplitl [Hb7]; · iexact Hb7
    isplitl [Hx7]; · iexact Hx7
    iexact Hv7
  isplitl [Hs]; · iexact Hs
  isplitl [Hz]; · iexact Hz
  isplitl [H0]; · iexact H0
  isplitl [H1]; · iexact H1
  iexact H2

end Parts

end Cert.KernelIdeal.Ln

end
-- ==== Proof.KernelIdeal.Parts2.lean ====
/-
The kernel's later parts, over any float values: the transfers of the statistics and their waits, the normalised rows, the copies
out and their waits.
-/
module

public import proofs.«01_k».proof.Proof.KernelIdeal.Parts1

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A copy out not yet issued: the result's chunk, the counter at zero. -/
def outP (c : Dev nD) (b : Fin 8) : sProp 𝕄 := iprop((∃ f, oP (F := F) c b f) ∗ semVal ((c : Thread nD τ), SemLoc.dma (outQ b)) 0)
/-- A copy out waited for: the result's chunk written, the on-chip chunk, the counter at zero. -/
def outD (m : (ℓ : Loc nD τ sig) → Buf (Elt F) ℓ) (c : Dev nD) (b : Fin 8) : sProp 𝕄 :=
  iprop(oP c b (Y m c) ∗ bP c b (Y m c) ∗ semVal ((c : Thread nD τ), SemLoc.dma (outQ b)) 0)

/-- The mean and the reciprocal deviation of each row, and `gamma` and `beta`, as the kernel holds them. -/
abbrev muV (m : (ℓ : Loc nD τ sig) → Buf (Elt F) ℓ) (c : Dev nD) : FVec F S4096x1 .f32 := k0_pay15 (sv m c 0) (sv m c 1) (sv m c 2) (sv m c 3)
abbrev rsV (m : (ℓ : Loc nD τ sig) → Buf (Elt F) ℓ) (c : Dev nD) : FVec F S4096x1 .f32 := k0_pay16 (sv m c 0) (sv m c 1) (sv m c 2) (sv m c 3)
abbrev gaV (m : (ℓ : Loc nD τ sig) → Buf (Elt F) ℓ) (c : Dev nD) : FVec F S1024 .f32 := k0_pay17 (gv m c)
abbrev beV (m : (ℓ : Loc nD τ sig) → Buf (Elt F) ℓ) (c : Dev nD) : FVec F S1024 .f32 := k0_pay18 (ev m c)

section Parts
variable (m : (ℓ : Loc nD τ sig) → Buf (Elt F) ℓ) (K : Dev nD × Fin 7 → ℕ) (c : Dev nD)

/-- The transfers to the first two peers. -/
theorem part6 {Q : PUnit → sProp 𝕄} (v2 v136 c1 : BitVec 32) :
    iprop(records m K ∗ ow c (OR0 c) ∗ (slotP c 0 (lentQ 0) (ST m c) ∗ (∃ f, slotP (peer c 0) (sl (Fin.rev 0)) fullShare f)
        ∗ dutyTok ER (sendCell c 0) 0 0 ∗ dutyTok ER (recvCell (peer c 0) (Fin.rev 0)) 0 0) ∗ (slotP c 0 (lentQ 1) (ST m c) ∗ (∃ f, slotP (peer c 1) (sl (Fin.rev 1)) fullShare f)
        ∗ dutyTok ER (sendCell c 1) 0 0 ∗ dutyTok ER (recvCell (peer c 1) (Fin.rev 1)) 0 0)
        ∗ (iprop(ow c (OR2 c) ∗ cred (tallyAt (sendCell c 0) () N) ∗ cred (tallyAt (sendCell c 1) () N)) -∗ Q ⟨⟩))
      ⊢ WP c (k0_part6 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5 c v2 v136 c1) Q := by
  rw [k0_part6_eq_skeleton]; unfold k0_part6_skel
  simp only [semWaitWord, Prog.lift, Prog.bind_op, Prog.bind_ret, Prog.pure_eq_ret]
  unfold OR0 OR1
  iintro ⟨#HR, HO, ⟨Hl0, Hp0, Ht0, Hu0⟩, ⟨Hl1, Hp1, Ht1, Hu1⟩, Hk⟩
  iapply (send m K c 0 (s := 3) rfl (dev4_eq c) rfl rfl _) $$ [HO Hl0 Hp0 Ht0 Hu0]
  · isplitr; · iexact HR
    isplitl [Hl0]; · iexact Hl0
    isplitl [Hp0]; · iexact Hp0
    isplitl [HO]; · iexact HO
    isplitl [Ht0]; · iexact Ht0
    iexact Hu0
  iintro ⟨Hc0, HO⟩
  iapply (send m K c 1 (s := 2) rfl (dev5_eq c) rfl rfl _) $$ [HO Hl1 Hp1 Ht1 Hu1]
  · isplitr; · iexact HR
    isplitl [Hl1]; · iexact Hl1
    isplitl [Hp1]; · iexact Hp1
    isplitl [HO]; · iexact HO
    isplitl [Ht1]; · iexact Ht1
    iexact Hu1
  iintro ⟨Hc1, HO⟩
  iapply (done c); iapply Hk
  isplitl [HO]; · iexact HO
  isplitl [Hc0]; · iexact Hc0
  iexact Hc1

/-- The transfer to the third peer and the waits for the first two transfers in. -/
theorem part7 {Q : PUnit → sProp 𝕄} (v2 : BitVec 32) :
    iprop(records m K ∗ ow c (OR2 c) ∗ (slotP c 0 (lentQ 2) (ST m c) ∗ (∃ f, slotP (peer c 2) (sl (Fin.rev 2)) fullShare f)
        ∗ dutyTok ER (sendCell c 2) 0 0 ∗ dutyTok ER (recvCell (peer c 2) (Fin.rev 2)) 0 0) ∗ (cred (tallyAt (recvCell c 0) () N) ∗ atPos ER (recvCell c 0) 0 ∅ 0) ∗ (cred (tallyAt (recvCell c 1) () N) ∗ atPos ER (recvCell c 1) 0 ∅ 0)
        ∗ (iprop(ow c 0 ∗ cred (tallyAt (sendCell c 2) () N) ∗ semVal (recvCell c 0) 0 ∗ slotP c (sl 0) fullShare (ST m c) ∗ semVal (recvCell c 1) 0 ∗ slotP c (sl 1) fullShare (ST m c)) -∗ Q ⟨⟩))
      ⊢ WP c (k0_part7 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5 c v2) Q := by
  rw [k0_part7_eq_skeleton]; unfold k0_part7_skel
  simp only [semWaitWord, Prog.lift, Prog.bind_op, Prog.bind_ret, Prog.pure_eq_ret]
  unfold OR2
  iintro ⟨#HR, HO, ⟨Hl2, Hp2, Ht2, Hu2⟩, ⟨Hr0, Ha0⟩, ⟨Hr1, Ha1⟩, Hk⟩
  iapply (send m K c 2 (s := 1) rfl (dev6_eq c) rfl rfl _) $$ [HO Hl2 Hp2 Ht2 Hu2]
  · isplitr; · iexact HR
    isplitl [Hl2]; · iexact Hl2
    isplitl [Hp2]; · iexact Hp2
    isplitl [HO]; · iexact HO
    isplitl [Ht2]; · iexact Ht2
    iexact Hu2
  iintro ⟨Hc2, HO⟩
  iapply (recv_wait m K c 0 rfl (s := 1)) $$ [HO Hr0 Ha0]
  · isplitr; · iexact HR
    isplitl [HO]; · iexact HO
    isplitl [Hr0]; · iexact Hr0
    iexact Ha0
  iintro ⟨HO, Hz0, Hs0⟩
  iapply (recv_wait m K c 1 rfl (s := 2)) $$ [HO Hr1 Ha1]
  · isplitr; · iexact HR
    isplitl [HO]; · iexact HO
    isplitl [Hr1]; · iexact Hr1
    iexact Ha1
  iintro ⟨HO, Hz1, Hs1⟩
  iapply (done c); iapply Hk
  isplitl [HO]; · iexact HO
  isplitl [Hc2]; · iexact Hc2
  isplitl [Hz0]; · iexact Hz0
  isplitl [Hs0]; · iexact Hs0
  isplitl [Hz1]; · iexact Hz1
  iexact Hs1

/-- The wait for the third transfer in, and the loads of the four slots, of `gamma`, of `beta`, of the first chunk. -/
theorem part8 {Q : (Σ' (_ : FVec F S4096x1 .f32) (_ : FVec F S4096x1 .f32) (_ : FVec F S1024 .f32) (_ : FVec F S1024 .f32) (_ : FVec F S512x1024 .f32), FVec F S1x1024 .f32) → sProp 𝕄} :
    iprop(records m K ∗ ow c 0 ∗ (cred (tallyAt (recvCell c 2) () N) ∗ atPos ER (recvCell c 2) 0 ∅ 0) ∗ slotP c 0 keepQ (ST m c) ∗ slotP c (sl 0) fullShare (ST m c) ∗ slotP c (sl 1) fullShare (ST m c)
        ∗ ((c : Thread nD τ).loc cc0_stg0_0 ↦{fullShare} gv m c) ∗ ((c : Thread nD τ).loc cc0_stg1_0 ↦{fullShare} ev m c) ∗ bP c 0 (X m c)
        ∗ (iprop(ow c 0 ∗ slotP c 0 keepQ (ST m c) ∗ slotP c (sl 0) fullShare (ST m c) ∗ slotP c (sl 1) fullShare (ST m c) ∗ semVal (recvCell c 2) 0 ∗ slotP c (sl 2) fullShare (ST m c)
            ∗ ((c : Thread nD τ).loc cc0_stg0_0 ↦{fullShare} gv m c) ∗ ((c : Thread nD τ).loc cc0_stg1_0 ↦{fullShare} ev m c) ∗ bP c 0 (X m c)) -∗ Q ⟨muV m c, rsV m c, gaV m c, beV m c, k0_pay19 (sv m c 0) (sv m c 1) (sv m c 2) (sv m c 3) (gv m c) (xv m c 0), k0_pay20 (ev m c)⟩))
      ⊢ WP c (k0_part8 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [k0_part8_eq_skeleton]; unfold k0_part8_skel
  simp only [semWaitWord, Prog.lift, Prog.bind_op, Prog.bind_ret, Prog.pure_eq_ret]
  iintro ⟨#HR, HO, ⟨Hr2, Ha2⟩, Hk0, Hs0, Hs1, Hg, He, Hb0, Hk⟩
  iapply (recv_wait m K c 2 rfl (s := 3)) $$ [HO Hr2 Ha2]
  · isplitr; · iexact HR
    isplitl [HO]; · iexact HO
    isplitl [Hr2]; · iexact Hr2
    iexact Ha2
  iintro ⟨HO, Hz2, Hs2⟩
  iapply (load_sv m c 0 keepQ) $$ Hk0; iintro Hk0
  iapply (load_sv m c 1 fullShare) $$ [Hs0]
  · iexact Hs0
  iintro Hs0
  iapply (load_sv m c 2 fullShare) $$ [Hs1]
  · iexact Hs1
  iintro Hs1
  iapply (load_sv m c 3 fullShare) $$ [Hs2]
  · iexact Hs2
  iintro Hs2
  iapply (load_g c (gv m c)) $$ Hg; iintro Hg
  iapply (load_e c (ev m c)) $$ He; iintro He
  iapply (load_x m c 0) $$ Hb0; iintro Hb0
  iapply (done c); iapply Hk
  isplitl [HO]; · iexact HO
  isplitl [Hk0]; · iexact Hk0
  isplitl [Hs0]; · iexact Hs0
  isplitl [Hs1]; · iexact Hs1
  isplitl [Hz2]; · iexact Hz2
  isplitl [Hs2]; · iexact Hs2
  isplitl [Hg]; · iexact Hg
  isplitl [He]; · iexact He
  iexact Hb0

/-- Chunks 0 and 1 normalised and their copies out; chunk 2 loaded. -/
theorem part9 {Q : (Σ' (_ : FVec F S512x1024 .f32), FVec F S512x1024 .f32) → sProp 𝕄} :
    iprop(bP c 0 (X m c) ∗ outP c 0 ∗ bP c 1 (X m c) ∗ outP c 1 ∗ bP c 2 (X m c)
        ∗ (iprop(outFl m c 0 ∗ outFl m c 1 ∗ bP c 2 (X m c)) -∗ Q ⟨k0_pay23 (muV m c) (rsV m c) (xv m c 2), k0_pay24 (gaV m c)⟩))
      ⊢ WP c (k0_part9 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5 (muV m c) (rsV m c) (gaV m c) (beV m c) (k0_pay19 (sv m c 0) (sv m c 1) (sv m c 2) (sv m c 3) (gv m c) (xv m c 0)) (k0_pay20 (ev m c))) Q := by
  rw [k0_part9_eq_skeleton]; unfold k0_part9_skel
  simp only [semWaitWord, Prog.lift, Prog.bind_op, Prog.bind_ret, Prog.pure_eq_ret]
  unfold outP
  iintro ⟨Hb0, Ho0, Hb1, Ho1, Hb2, Hk⟩
  iapply (row_out m c 0 (X m c) rfl rfl) $$ [Hb0 Ho0]
  · isplitl [Hb0]; · iexact Hb0
    iexact Ho0
  iintro Hf0
  iapply (load_x m c 1) $$ Hb1; iintro Hb1
  iapply (row_out m c 1 (X m c) rfl rfl) $$ [Hb1 Ho1]
  · isplitl [Hb1]; · iexact Hb1
    iexact Ho1
  iintro Hf1
  iapply (load_x m c 2) $$ Hb2; iintro Hb2
  iapply (done c); iapply Hk
  isplitl [Hf0]; · iexact Hf0
  isplitl [Hf1]; · iexact Hf1
  iexact Hb2

/-- Chunks 2 and 3 normalised and their copies out; chunk 4 loaded. -/
theorem part10 {Q : FVec F S512x1024 .f32 → sProp 𝕄} :
    iprop(bP c 2 (X m c) ∗ outP c 2 ∗ bP c 3 (X m c) ∗ outP c 3 ∗ bP c 4 (X m c)
        ∗ (iprop(outFl m c 2 ∗ outFl m c 3 ∗ bP c 4 (X m c)) -∗ Q (k0_pay27 (muV m c) (rsV m c) (xv m c 4))))
      ⊢ WP c (k0_part10 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5 (muV m c) (rsV m c) (gaV m c) (beV m c) (k0_pay23 (muV m c) (rsV m c) (xv m c 2)) (k0_pay24 (gaV m c))) Q := by
  rw [k0_part10_eq_skeleton]; unfold k0_part10_skel
  simp only [semWaitWord, Prog.lift, Prog.bind_op, Prog.bind_ret, Prog.pure_eq_ret]
  unfold outP
  iintro ⟨Hb2, Ho2, Hb3, Ho3, Hb4, Hk⟩
  iapply (row_out m c 2 (X m c) rfl rfl) $$ [Hb2 Ho2]
  · isplitl [Hb2]; · iexact Hb2
    iexact Ho2
  iintro Hf2
  iapply (load_x m c 3) $$ Hb3; iintro Hb3
  iapply (row_out m c 3 (X m c) rfl rfl) $$ [Hb3 Ho3]
  · isplitl [Hb3]; · iexact Hb3
    iexact Ho3
  iintro Hf3
  iapply (load_x m c 4) $$ Hb4; iintro Hb4
  iapply (done c); iapply Hk
  isplitl [Hf2]; · iexact Hf2
  isplitl [Hf3]; · iexact Hf3
  iexact Hb4

/-- Chunks 4 and 5 normalised and their copies out; chunk 6 loaded. -/
theorem part11 {Q : (Σ' (_ : FVec F S512x1 .f32), FVec F S512x1024 .f32) → sProp 𝕄} :
    iprop(bP c 4 (X m c) ∗ outP c 4 ∗ bP c 5 (X m c) ∗ outP c 5 ∗ bP c 6 (X m c)
        ∗ (iprop(outFl m c 4 ∗ outFl m c 5 ∗ bP c 6 (X m c)) -∗ Q ⟨k0_pay30 (rsV m c), k0_pay31 (muV m c) (xv m c 6)⟩))
      ⊢ WP c (k0_part11 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5 (muV m c) (rsV m c) (gaV m c) (beV m c) (k0_pay27 (muV m c) (rsV m c) (xv m c 4))) Q := by
  rw [k0_part11_eq_skeleton]; unfold k0_part11_skel
  simp only [semWaitWord, Prog.lift, Prog.bind_op, Prog.bind_ret, Prog.pure_eq_ret]
  unfold outP
  iintro ⟨Hb4, Ho4, Hb5, Ho5, Hb6, Hk⟩
  iapply (row_out m c 4 (X m c) rfl rfl) $$ [Hb4 Ho4]
  · isplitl [Hb4]; · iexact Hb4
    iexact Ho4
  iintro Hf4
  iapply (load_x m c 5) $$ Hb5; iintro Hb5
  iapply (row_out m c 5 (X m c) rfl rfl) $$ [Hb5 Ho5]
  · isplitl [Hb5]; · iexact Hb5
    iexact Ho5
  iintro Hf5
  iapply (load_x m c 6) $$ Hb6; iintro Hb6
  iapply (done c); iapply Hk
  isplitl [Hf4]; · iexact Hf4
  isplitl [Hf5]; · iexact Hf5
  iexact Hb6

/-- Chunks 6 and 7 normalised and their copies out. -/
theorem part12 {Q : PUnit → sProp 𝕄} :
    iprop(bP c 6 (X m c) ∗ outP c 6 ∗ bP c 7 (X m c) ∗ outP c 7
        ∗ (iprop(outFl m c 6 ∗ outFl m c 7) -∗ Q ⟨⟩))
      ⊢ WP c (k0_part12 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5 (muV m c) (rsV m c) (gaV m c) (beV m c) (k0_pay30 (rsV m c)) (k0_pay31 (muV m c) (xv m c 6))) Q := by
  rw [k0_part12_eq_skeleton]; unfold k0_part12_skel
  simp only [semWaitWord, Prog.lift, Prog.bind_op, Prog.bind_ret, Prog.pure_eq_ret]
  unfold outP
  iintro ⟨Hb6, Ho6, Hb7, Ho7, Hk⟩
  iapply (row_out m c 6 (X m c) rfl rfl) $$ [Hb6 Ho6]
  · isplitl [Hb6]; · iexact Hb6
    iexact Ho6
  iintro Hf6
  iapply (load_x m c 7) $$ Hb7; iintro Hb7
  iapply (row_out m c 7 (X m c) rfl rfl) $$ [Hb7 Ho7]
  · isplitl [Hb7]; · iexact Hb7
    iexact Ho7
  iintro Hf7
  iapply (done c); iapply Hk
  isplitl [Hf6]; · iexact Hf6
  iexact Hf7

/-- The waits for the first six copies out. -/
theorem part13 {Q : PUnit → sProp 𝕄} :
    iprop(ow c 0 ∗ outFl m c 0 ∗ outFl m c 1 ∗ outFl m c 2 ∗ outFl m c 3 ∗ outFl m c 4 ∗ outFl m c 5
        ∗ (iprop(ow c 0 ∗ outD m c 0 ∗ outD m c 1 ∗ outD m c 2 ∗ outD m c 3 ∗ outD m c 4 ∗ outD m c 5) -∗ Q ⟨⟩))
      ⊢ WP c (k0_part13 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [k0_part13_eq_skeleton]; unfold k0_part13_skel
  simp only [semWaitWord, Prog.lift, Prog.bind_op, Prog.bind_ret, Prog.pure_eq_ret]
  unfold outD
  iintro ⟨HO, Hf0, Hf1, Hf2, Hf3, Hf4, Hf5, Hk⟩
  iapply (out_wait m c 0 rfl) $$ [Hf0 HO]
  · isplitl [Hf0]; · iexact Hf0
    iexact HO
  iintro ⟨Ho0, Hb0, Hv0, HO⟩
  iapply (out_wait m c 1 rfl) $$ [Hf1 HO]
  · isplitl [Hf1]; · iexact Hf1
    iexact HO
  iintro ⟨Ho1, Hb1, Hv1, HO⟩
  iapply (out_wait m c 2 rfl) $$ [Hf2 HO]
  · isplitl [Hf2]; · iexact Hf2
    iexact HO
  iintro ⟨Ho2, Hb2, Hv2, HO⟩
  iapply (out_wait m c 3 rfl) $$ [Hf3 HO]
  · isplitl [Hf3]; · iexact Hf3
    iexact HO
  iintro ⟨Ho3, Hb3, Hv3, HO⟩
  iapply (out_wait m c 4 rfl) $$ [Hf4 HO]
  · isplitl [Hf4]; · iexact Hf4
    iexact HO
  iintro ⟨Ho4, Hb4, Hv4, HO⟩
  iapply (out_wait m c 5 rfl) $$ [Hf5 HO]
  · isplitl [Hf5]; · iexact Hf5
    iexact HO
  iintro ⟨Ho5, Hb5, Hv5, HO⟩
  iapply (done c); iapply Hk
  isplitl [HO]; · iexact HO
  isplitl [Ho0 Hb0 Hv0]
  · isplitl [Ho0]; · iexact Ho0
    isplitl [Hb0]; · iexact Hb0
    iexact Hv0
  isplitl [Ho1 Hb1 Hv1]
  · isplitl [Ho1]; · iexact Ho1
    isplitl [Hb1]; · iexact Hb1
    iexact Hv1
  isplitl [Ho2 Hb2 Hv2]
  · isplitl [Ho2]; · iexact Ho2
    isplitl [Hb2]; · iexact Hb2
    iexact Hv2
  isplitl [Ho3 Hb3 Hv3]
  · isplitl [Ho3]; · iexact Ho3
    isplitl [Hb3]; · iexact Hb3
    iexact Hv3
  isplitl [Ho4 Hb4 Hv4]
  · isplitl [Ho4]; · iexact Ho4
    isplitl [Hb4]; · iexact Hb4
    iexact Hv4
  isplitl [Ho5]; · iexact Ho5
  isplitl [Hb5]; · iexact Hb5
  iexact Hv5

/-- The waits for the last two copies out and for the first two transfers out. -/
theorem part14 {Q : PUnit → sProp 𝕄} :
    iprop(records m K ∗ ow c 0 ∗ outFl m c 6 ∗ outFl m c 7 ∗ (cred (tallyAt (sendCell c 0) () N) ∗ atPos ER (sendCell c 0) 0 ∅ 0) ∗ (cred (tallyAt (sendCell c 1) () N) ∗ atPos ER (sendCell c 1) 0 ∅ 0)
        ∗ (iprop(ow c 0 ∗ outD m c 6 ∗ outD m c 7 ∗ semVal (sendCell c 0) 0 ∗ slotP c 0 (lentQ 0) (ST m c) ∗ semVal (sendCell c 1) 0 ∗ slotP c 0 (lentQ 1) (ST m c)) -∗ Q ⟨⟩))
      ⊢ WP c (k0_part14 xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [k0_part14_eq_skeleton]; unfold k0_part14_skel
  simp only [semWaitWord, Prog.lift, Prog.bind_op, Prog.bind_ret, Prog.pure_eq_ret]
  unfold outD
  iintro ⟨#HR, HO, Hf6, Hf7, ⟨Hr0, Ha0⟩, ⟨Hr1, Ha1⟩, Hk⟩
  iapply (out_wait m c 6 rfl) $$ [Hf6 HO]
  · isplitl [Hf6]; · iexact Hf6
    iexact HO
  iintro ⟨Ho6, Hb6, Hv6, HO⟩
  iapply (out_wait m c 7 rfl) $$ [Hf7 HO]
  · isplitl [Hf7]; · iexact Hf7
    iexact HO
  iintro ⟨Ho7, Hb7, Hv7, HO⟩
  iapply (send_wait m K c 0 rfl (s := 3)) $$ [HO Hr0 Ha0]
  · isplitr; · iexact HR
    isplitl [HO]; · iexact HO
    isplitl [Hr0]; · iexact Hr0
    iexact Ha0
  iintro ⟨HO, Hz0, Hs0⟩
  iapply (send_wait m K c 1 rfl (s := 2)) $$ [HO Hr1 Ha1]
  · isplitr; · iexact HR
    isplitl [HO]; · iexact HO
    isplitl [Hr1]; · iexact Hr1
    iexact Ha1
  iintro ⟨HO, Hz1, Hs1⟩
  iapply (done c); iapply Hk
  isplitl [HO]; · iexact HO
  isplitl [Ho6 Hb6 Hv6]
  · isplitl [Ho6]; · iexact Ho6
    isplitl [Hb6]; · iexact Hb6
    iexact Hv6
  isplitl [Ho7 Hb7 Hv7]
  · isplitl [Ho7]; · iexact Ho7
    isplitl [Hb7]; · iexact Hb7
    iexact Hv7
  isplitl [Hz0]; · iexact Hz0
  isplitl [Hs0]; · iexact Hs0
  isplitl [Hz1]; · iexact Hz1
  iexact Hs1

end Parts

end Cert.KernelIdeal.Ln

end
-- ==== Proof.KernelIdeal.Body.lean ====
/-
The whole kernel on one device, over any float values, from its pieces to its pieces: the parts put together.
-/
module

public import proofs.«01_k».proof.Proof.KernelIdeal.Parts2

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program and what follows it. -/
theorem bnd (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ p k Q).symm

section Body
variable (m : (ℓ : Loc nD τ sig) → Buf (Elt F) ℓ) (K : Dev nD × Fin 7 → ℕ) (c : Dev nD)

/-- The tokens of the duties device `c` pays: its signals', and of each transfer the send's and the receive's. -/
def payToks : sProp 𝕄 :=
  iprop((dutyTok ER (barCell (peer c 0)) 0 (Fin.rev 0) ∗ dutyTok ER (barCell (peer c 1)) 0 (Fin.rev 1) ∗ dutyTok ER (barCell (peer c 2)) 0 (Fin.rev 2))
    ∗ (dutyTok ER (sendCell c 0) 0 0 ∗ dutyTok ER (recvCell (peer c 0) (Fin.rev 0)) 0 0) ∗ (dutyTok ER (sendCell c 1) 0 0 ∗ dutyTok ER (recvCell (peer c 1) (Fin.rev 1)) 0 0) ∗ (dutyTok ER (sendCell c 2) 0 0 ∗ dutyTok ER (recvCell (peer c 2) (Fin.rev 2)) 0 0))
/-- Device `c`'s positions in its own cells. -/
def poss : sProp 𝕄 :=
  iprop(atPos ER (barCell c) 0 ∅ 0 ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))
/-- The credits of device `c`'s own waits that others pay. -/
def crds : sProp 𝕄 :=
  iprop(cred (tallyAt (barCell c) () 3) ∗ cred (tallyAt (recvCell c 0) () N) ∗ cred (tallyAt (recvCell c 1) () N) ∗ cred (tallyAt (recvCell c 2) () N))
/-- `gamma` and `beta` as staged. -/
def stgs : sProp 𝕄 := iprop(((c : Thread nD τ).loc cc0_stg0_0 ↦{fullShare} gv m c) ∗ ((c : Thread nD τ).loc cc0_stg1_0 ↦{fullShare} ev m c))
/-- What the kernel is entered with besides: the slots at any contents, the chunks of the two copies each way. -/
def slots0 : sProp 𝕄 := iprop((∃ f, slotP (F := F) c 0 fullShare f) ∗ (∃ f, slotP (F := F) c (sl 0) fullShare f) ∗ (∃ f, slotP (F := F) c (sl 1) fullShare f) ∗ (∃ f, slotP (F := F) c (sl 2) fullShare f))
def ins0 : sProp 𝕄 := iprop(inP m c 0 ∗ inP m c 1 ∗ inP m c 2 ∗ inP m c 3 ∗ inP m c 4 ∗ inP m c 5 ∗ inP m c 6 ∗ inP m c 7)
def outs0 : sProp 𝕄 := iprop(outP (F := F) c 0 ∗ outP (F := F) c 1 ∗ outP (F := F) c 2 ∗ outP (F := F) c 3 ∗ outP (F := F) c 4 ∗ outP (F := F) c 5 ∗ outP (F := F) c 6 ∗ outP (F := F) c 7)
/-- `x`'s chunk back, the counter of its copy at zero. -/
def xD (b : Fin 8) : sProp 𝕄 := iprop(xP c b (X m c) ∗ semVal ((c : Thread nD τ), SemLoc.dma (inQ b)) 0)
/-- What the kernel ends with: `x`'s chunks, the result's, the slots, every counter at zero. -/
def xDs : sProp 𝕄 := iprop(xD m c 0 ∗ xD m c 1 ∗ xD m c 2 ∗ xD m c 3 ∗ xD m c 4 ∗ xD m c 5 ∗ xD m c 6 ∗ xD m c 7)
def outDs : sProp 𝕄 := iprop(outD m c 0 ∗ outD m c 1 ∗ outD m c 2 ∗ outD m c 3 ∗ outD m c 4 ∗ outD m c 5 ∗ outD m c 6 ∗ outD m c 7)
def slots1 : sProp 𝕄 := iprop(slotP c 0 fullShare (ST m c) ∗ slotP c (sl 0) fullShare (ST m c) ∗ slotP c (sl 1) fullShare (ST m c) ∗ slotP c (sl 2) fullShare (ST m c))
def zeros : sProp 𝕄 :=
  iprop(semVal (barCell c) 0 ∗ (semVal (sendCell c 0) 0 ∗ semVal (sendCell c 1) 0 ∗ semVal (sendCell c 2) 0)
    ∗ (semVal (recvCell c 0) 0 ∗ semVal (recvCell c 1) 0 ∗ semVal (recvCell c 2) 0))

/-- The kernel on device `c`. -/
theorem core_body {Q : PUnit → sProp 𝕄} :
    iprop((records m K ∗ levAts L lv ∗ ow c (O₀ c) ∗ payToks c ∗ poss c ∗ crds c ∗ slots0 c ∗ ins0 m c ∗ outs0 c ∗ stgs m c)
        ∗ (iprop(ow c 0 ∗ stgs m c ∗ xDs m c ∗ outDs m c ∗ slots1 m c ∗ zeros c) -∗ Q ⟨⟩))
      ⊢ WP c (cc0_body xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  rw [cc0_body_eq_skeleton]; unfold cc0_body_skel
  unfold payToks poss crds slots0 ins0 outs0
  iintro ⟨⟨#HR, #HL, HO, ⟨⟨Tb0, Tb1, Tb2⟩, ⟨Ts0, Tr0⟩, ⟨Ts1, Tr1⟩, ⟨Ts2, Tr2⟩⟩, ⟨Ab, ⟨As0, As1, As2⟩, ⟨Ar0, Ar1, Ar2⟩⟩, ⟨Cb, Cr0, Cr1, Cr2⟩, ⟨S, S0, S1, S2⟩,
    ⟨I0, I1, I2, I3, I4, I5, I6, I7⟩, ⟨P0, P1, P2, P3, P4, P5, P6, P7⟩, Hst⟩, Hk⟩
  iapply (bnd c)
  iapply (part1 m K c)
  isplitr; · iexact HR
  isplitl [HO]; · iexact HO
  isplitl [Tb0 Tb1 Tb2]
  · isplitl [Tb0]; · iexact Tb0
    isplitl [Tb1]; · iexact Tb1
    iexact Tb2
  isplitl [S0 S1 S2]
  · isplitl [S0]; · iexact S0
    isplitl [S1]; · iexact S1
    iexact S2
  isplitl [I0]; · iexact I0
  isplitl [I1]; · iexact I1
  iintro ⟨HO, I0, I1⟩
  iapply (bnd c)
  iapply (part2 m c)
  isplitl [I2]; · iexact I2
  isplitl [I3]; · iexact I3
  isplitl [I4]; · iexact I4
  isplitl [I5]; · iexact I5
  isplitl [I6]; · iexact I6
  isplitl [I7]; · iexact I7
  iintro ⟨I2, I3, I4, I5, I6, I7⟩
  iapply (bnd c)
  iapply (part3 m c)
  isplitr; · iexact HL
  isplitl [HO]; · iexact HO
  isplitl [I0]; · iexact I0
  isplitl [I1]; · iexact I1
  isplitl [I2]; · iexact I2
  iintro ⟨HO, D0, D1, D2⟩
  iapply (bnd c)
  iapply (part4 m c)
  isplitr; · iexact HL
  isplitl [HO]; · iexact HO
  isplitl [I3]; · iexact I3
  isplitl [I4]; · iexact I4
  isplitl [I5]; · iexact I5
  iintro ⟨HO, D3, D4, D5⟩
  iapply (bnd c)
  iapply (part5 m K c _)
  isplitr; · iexact HR
  isplitr; · iexact HL
  isplitl [HO]; · iexact HO
  isplitl [I6]; · iexact I6
  isplitl [I7]; · iexact I7
  isplitl [S]; · iexact S
  isplitl [Cb]; · iexact Cb
  isplitl [Ab]; · iexact Ab
  iintro %r ⟨HO, D6, D7, S, Zb, E0, E1, E2⟩
  ihave S := (slot_split (F := F) c 0 (ST m c)).1 $$ S
  icases S with ⟨S, L0, L1, L2⟩
  iapply (bnd c)
  iapply (part6 m K c _ _ _)
  isplitr; · iexact HR
  isplitl [HO]; · iexact HO
  isplitl [L0 E0 Ts0 Tr0]
  · isplitl [L0]; · iexact L0
    isplitl [E0]; · iexact E0
    isplitl [Ts0]; · iexact Ts0
    iexact Tr0
  isplitl [L1 E1 Ts1 Tr1]
  · isplitl [L1]; · iexact L1
    isplitl [E1]; · iexact E1
    isplitl [Ts1]; · iexact Ts1
    iexact Tr1
  iintro ⟨HO, Cs0, Cs1⟩
  iapply (bnd c)
  iapply (part7 m K c _)
  isplitr; · iexact HR
  isplitl [HO]; · iexact HO
  isplitl [L2 E2 Ts2 Tr2]
  · isplitl [L2]; · iexact L2
    isplitl [E2]; · iexact E2
    isplitl [Ts2]; · iexact Ts2
    iexact Tr2
  isplitl [Cr0 Ar0]
  · isplitl [Cr0]; · iexact Cr0
    iexact Ar0
  isplitl [Cr1 Ar1]
  · isplitl [Cr1]; · iexact Cr1
    iexact Ar1
  iintro ⟨HO, Cs2, Zr0, S0, Zr1, S1⟩
  unfold inD stgs
  icases D0 with ⟨B0, X0, V0⟩
  icases D1 with ⟨B1, X1, V1⟩
  icases D2 with ⟨B2, X2, V2⟩
  icases D3 with ⟨B3, X3, V3⟩
  icases D4 with ⟨B4, X4, V4⟩
  icases D5 with ⟨B5, X5, V5⟩
  icases D6 with ⟨B6, X6, V6⟩
  icases D7 with ⟨B7, X7, V7⟩
  icases Hst with ⟨Hg, He⟩
  iapply (bnd c)
  iapply (part8 m K c)
  isplitr; · iexact HR
  isplitl [HO]; · iexact HO
  isplitl [Cr2 Ar2]
  · isplitl [Cr2]; · iexact Cr2
    iexact Ar2
  isplitl [S]; · iexact S
  isplitl [S0]; · iexact S0
  isplitl [S1]; · iexact S1
  isplitl [Hg]; · iexact Hg
  isplitl [He]; · iexact He
  isplitl [B0]; · iexact B0
  iintro ⟨HO, S, S0, S1, Zr2, S2, Hg, He, B0⟩
  iapply (bnd c)
  iapply (part9 m c)
  isplitl [B0]; · iexact B0
  isplitl [P0]; · iexact P0
  isplitl [B1]; · iexact B1
  isplitl [P1]; · iexact P1
  isplitl [B2]; · iexact B2
  iintro ⟨F0, F1, B2⟩
  iapply (bnd c)
  iapply (part10 m c)
  isplitl [B2]; · iexact B2
  isplitl [P2]; · iexact P2
  isplitl [B3]; · iexact B3
  isplitl [P3]; · iexact P3
  isplitl [B4]; · iexact B4
  iintro ⟨F2, F3, B4⟩
  iapply (bnd c)
  iapply (part11 m c)
  isplitl [B4]; · iexact B4
  isplitl [P4]; · iexact P4
  isplitl [B5]; · iexact B5
  isplitl [P5]; · iexact P5
  isplitl [B6]; · iexact B6
  iintro ⟨F4, F5, B6⟩
  iapply (bnd c)
  iapply (part12 m c)
  isplitl [B6]; · iexact B6
  isplitl [P6]; · iexact P6
  isplitl [B7]; · iexact B7
  isplitl [P7]; · iexact P7
  iintro ⟨F6, F7⟩
  iapply (bnd c)
  iapply (part13 m c)
  isplitl [HO]; · iexact HO
  isplitl [F0]; · iexact F0
  isplitl [F1]; · iexact F1
  isplitl [F2]; · iexact F2
  isplitl [F3]; · iexact F3
  isplitl [F4]; · iexact F4
  isplitl [F5]; · iexact F5
  iintro ⟨HO, F0, F1, F2, F3, F4, F5⟩
  iapply (bnd c)
  iapply (part14 m K c)
  isplitr; · iexact HR
  isplitl [HO]; · iexact HO
  isplitl [F6]; · iexact F6
  isplitl [F7]; · iexact F7
  isplitl [Cs0 As0]
  · isplitl [Cs0]; · iexact Cs0
    iexact As0
  isplitl [Cs1 As1]
  · isplitl [Cs1]; · iexact Cs1
    iexact As1
  iintro ⟨HO, F6, F7, Zs0, L0, Zs1, L1⟩
  simp only [Prog.lift, Prog.bind_op, Prog.bind_ret, Prog.pure_eq_ret]
  iapply (send_wait m K c 2 rfl (s := 1)) $$ [HO Cs2 As2]
  · isplitr; · iexact HR
    isplitl [HO]; · iexact HO
    isplitl [Cs2]; · iexact Cs2
    iexact As2
  iintro ⟨HO, Zs2, L2⟩
  iapply (done c); iapply Hk
  unfold xDs outDs slots1 zeros xD
  isplitl [HO]; · iexact HO
  isplitl [Hg He]
  · isplitl [Hg]; · iexact Hg
    iexact He
  isplitl [X0 V0 X1 V1 X2 V2 X3 V3 X4 V4 X5 V5 X6 V6 X7 V7]
  · isplitl [X0 V0]
    · isplitl [X0]; · iexact X0
      iexact V0
    isplitl [X1 V1]
    · isplitl [X1]; · iexact X1
      iexact V1
    isplitl [X2 V2]
    · isplitl [X2]; · iexact X2
      iexact V2
    isplitl [X3 V3]
    · isplitl [X3]; · iexact X3
      iexact V3
    isplitl [X4 V4]
    · isplitl [X4]; · iexact X4
      iexact V4
    isplitl [X5 V5]
    · isplitl [X5]; · iexact X5
      iexact V5
    isplitl [X6 V6]
    · isplitl [X6]; · iexact X6
      iexact V6
    isplitl [X7]; · iexact X7
    iexact V7
  isplitl [F0 F1 F2 F3 F4 F5 F6 F7]
  · isplitl [F0]; · iexact F0
    isplitl [F1]; · iexact F1
    isplitl [F2]; · iexact F2
    isplitl [F3]; · iexact F3
    isplitl [F4]; · iexact F4
    isplitl [F5]; · iexact F5
    isplitl [F6]; · iexact F6
    iexact F7
  isplitl [S L0 L1 L2 S0 S1 S2]
  · isplitl [S L0 L1 L2]
    · iapply (slot_split (F := F) c 0 (ST m c)).2
      isplitl [S]; · iexact S
      isplitl [L0]; · iexact L0
      isplitl [L1]; · iexact L1
      iexact L2
    isplitl [S0]; · iexact S0
    isplitl [S1]; · iexact S1
    iexact S2
  isplitl [Zb]; · iexact Zb
  isplitl [Zs0 Zs1 Zs2]
  · isplitl [Zs0]; · iexact Zs0
    isplitl [Zs1]; · iexact Zs1
    iexact Zs2
  isplitl [Zr0]; · iexact Zr0
  isplitl [Zr1]; · iexact Zr1
  iexact Zr2

end Body

end Cert.KernelIdeal.Ln

end
-- ==== Proof.KernelIdeal.Held.lean ====
/-
The buffers whole and the buffers in pieces, over any float values: eight row chunks of a block, four slots of the statistics
buffer; and the kernel on one device from whole buffers to whole buffers.
-/
module

public import Idealize.ShloMosaic.Lib.Ring
public import proofs.«01_k».proof.Proof.KernelIdeal.Body

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces of a buffer -/

/-- The eight row chunks are disjoint, -/
theorem rows_disj (b b' : Fin 8) (h : b ≠ b') : Disjoint (rowR b).set (rowR b').set := by
  refine Finset.disjoint_left.mpr fun i hi hi' => h (Fin.ext ?_)
  have h1 := Rect.mem_set_unit.mp hi 0
  have h2 := Rect.mem_set_unit.mp hi' 0
  have e1 : 512 * b.val ≤ (i 0 : Fin 4096).val ∧ (i 0 : Fin 4096).val < 512 * b.val + 512 := h1
  have e2 : 512 * b'.val ≤ (i 0 : Fin 4096).val ∧ (i 0 : Fin 4096).val < 512 * b'.val + 512 := h2
  omega
/-- and cover the block. -/
theorem rows_cover : (Finset.univ.biUnion fun b : Fin 8 => (rowR b).set) = Finset.univ := by
  refine Finset.eq_univ_of_forall fun i => Finset.mem_biUnion.mpr ⟨chunkOf i, Finset.mem_univ _, Rect.mem_set_unit.mpr fun a => ?_⟩
  have h1 : (i 1 : Fin 1024).val < 1024 := (i 1).isLt
  fin_cases a
  · show 512 * ((i 0 : Fin 4096).val / 512) ≤ (i 0 : Fin 4096).val ∧ (i 0 : Fin 4096).val < 512 * ((i 0 : Fin 4096).val / 512) + 512
    omega
  · show 0 ≤ (i 1 : Fin 1024).val ∧ (i 1 : Fin 1024).val < 0 + 1024
    omega

/-- The four slots are disjoint, -/
theorem slots_disj (b b' : Fin 4) (h : b ≠ b') : Disjoint (slotR b).set (slotR b').set := by
  refine Finset.disjoint_left.mpr fun i hi hi' => h (Fin.ext ?_)
  have h1 := Rect.mem_set_unit.mp hi 0
  have h2 := Rect.mem_set_unit.mp hi' 0
  have e1 : b.val ≤ (i 0 : Fin 4).val ∧ (i 0 : Fin 4).val < b.val + 1 := h1
  have e2 : b'.val ≤ (i 0 : Fin 4).val ∧ (i 0 : Fin 4).val < b'.val + 1 := h2
  omega
/-- and cover the statistics buffer. -/
theorem slots_cover : (Finset.univ.biUnion fun b : Fin 4 => (slotR b).set) = Finset.univ := by
  refine Finset.eq_univ_of_forall fun i => Finset.mem_biUnion.mpr ⟨(i 0 : Fin 4), Finset.mem_univ _, Rect.mem_set_unit.mpr fun a => ?_⟩
  have h1 : (i 1 : Fin 2).val < 2 := (i 1).isLt
  have h2 : (i 2 : Fin 4096).val < 4096 := (i 2).isLt
  fin_cases a
  · show (i 0 : Fin 4).val ≤ (i 0 : Fin 4).val ∧ (i 0 : Fin 4).val < (i 0 : Fin 4).val + 1
    omega
  · show 0 ≤ (i 1 : Fin 2).val ∧ (i 1 : Fin 2).val < 0 + 2
    omega
  · show 0 ≤ (i 2 : Fin 4096).val ∧ (i 2 : Fin 4096).val < 0 + 4096
    omega
/-- The elements of a slot in the buffer held whole. -/
theorem slot_whole (s : Fin 4) : (slotM s).view.set = (slotR s).set :=
  (View.set_reshape (sM.view.slice (slotR s)) _).trans (View.set_slice_whole cc0_scratch1 (slotR s))

/-- A block held whole is its eight row chunks. -/
theorem rows_x (c : Dev nD) (f : Vec F S4096x1024 .f32) :
    ((c : Thread nD τ).loc main_arg0 ↦{fullShare} f : sProp 𝕄) = iprop(xP c 0 f ∗ xP c 1 f ∗ xP c 2 f ∗ xP c 3 f ∗ xP c 4 f ∗ xP c 5 f ∗ xP c 6 f ∗ xP c 7 f) := by
  rw [Ring.pointsTo_blocks (ℓ := (c : Thread nD τ).loc main_arg0) (fun b : Fin 8 => (rowR b).set) rows_disj rows_cover f,
    bigSep_univ_eq_bigSepL [0, 1, 2, 3, 4, 5, 6, 7] (by decide) (by decide)]
  simp only [bigSepL_cons_cons, bigSepL_singleton, ← View.set_slice_whole main_arg0]
  rfl
/-- The result held whole is its eight row chunks, -/
theorem rows_o (c : Dev nD) (f : Vec F S4096x1024 .f32) :
    ((c : Thread nD τ).loc main_v1 ↦{fullShare} f : sProp 𝕄) = iprop(oP c 0 f ∗ oP c 1 f ∗ oP c 2 f ∗ oP c 3 f ∗ oP c 4 f ∗ oP c 5 f ∗ oP c 6 f ∗ oP c 7 f) := by
  rw [Ring.pointsTo_blocks (ℓ := (c : Thread nD τ).loc main_v1) (fun b : Fin 8 => (rowR b).set) rows_disj rows_cover f,
    bigSep_univ_eq_bigSepL [0, 1, 2, 3, 4, 5, 6, 7] (by decide) (by decide)]
  simp only [bigSepL_cons_cons, bigSepL_singleton, ← View.set_slice_whole main_v1]
  rfl
/-- and so is the on-chip copy. -/
theorem rows_b (c : Dev nD) (f : Vec F S4096x1024 .f32) :
    ((c : Thread nD τ).loc cc0_scratch0 ↦{fullShare} f : sProp 𝕄) = iprop(bP c 0 f ∗ bP c 1 f ∗ bP c 2 f ∗ bP c 3 f ∗ bP c 4 f ∗ bP c 5 f ∗ bP c 6 f ∗ bP c 7 f) := by
  rw [Ring.pointsTo_blocks (ℓ := (c : Thread nD τ).loc cc0_scratch0) (fun b : Fin 8 => (rowR b).set) rows_disj rows_cover f,
    bigSep_univ_eq_bigSepL [0, 1, 2, 3, 4, 5, 6, 7] (by decide) (by decide)]
  simp only [bigSepL_cons_cons, bigSepL_singleton, ← View.set_slice_whole cc0_scratch0]
  rfl

/-- The statistics buffer held whole is its four slots. -/
theorem slots_eq (c : Dev nD) (f : Vec F S4x2x4096 .f32) :
    ((c : Thread nD τ).loc cc0_scratch1 ↦{fullShare} f : sProp 𝕄)
      = iprop(slotP c 0 fullShare f ∗ slotP c (sl 0) fullShare f ∗ slotP c (sl 1) fullShare f ∗ slotP c (sl 2) fullShare f) := by
  rw [Ring.pointsTo_blocks (ℓ := (c : Thread nD τ).loc cc0_scratch1) (fun s : Fin 4 => (slotR s).set) slots_disj slots_cover f,
    bigSep_univ_eq_bigSepL [0, 1, 2, 3] (by decide) (by decide)]
  simp only [bigSepL_cons_cons, bigSepL_singleton, ← slot_whole]
  rfl

section Whole
variable (m : (ℓ : Loc nD τ sig) → Buf (Elt F) ℓ) (K : Dev nD × Fin 7 → ℕ) (c : Dev nD)

/-- The counters of the copies in and out at zero, and the one semaphore the kernel never uses. -/
def sems : sProp 𝕄 :=
  iprop((semVal ((c : Thread nD τ), SemLoc.dma (inQ 0)) 0 ∗ semVal ((c : Thread nD τ), SemLoc.dma (inQ 1)) 0 ∗ semVal ((c : Thread nD τ), SemLoc.dma (inQ 2)) 0 ∗ semVal ((c : Thread nD τ), SemLoc.dma (inQ 3)) 0 ∗ semVal ((c : Thread nD τ), SemLoc.dma (inQ 4)) 0 ∗ semVal ((c : Thread nD τ), SemLoc.dma (inQ 5)) 0 ∗ semVal ((c : Thread nD τ), SemLoc.dma (inQ 6)) 0 ∗ semVal ((c : Thread nD τ), SemLoc.dma (inQ 7)) 0)
    ∗ (semVal ((c : Thread nD τ), SemLoc.dma (outQ 0)) 0 ∗ semVal ((c : Thread nD τ), SemLoc.dma (outQ 1)) 0 ∗ semVal ((c : Thread nD τ), SemLoc.dma (outQ 2)) 0 ∗ semVal ((c : Thread nD τ), SemLoc.dma (outQ 3)) 0 ∗ semVal ((c : Thread nD τ), SemLoc.dma (outQ 4)) 0 ∗ semVal ((c : Thread nD τ), SemLoc.dma (outQ 5)) 0 ∗ semVal ((c : Thread nD τ), SemLoc.dma (outQ 6)) 0 ∗ semVal ((c : Thread nD τ), SemLoc.dma (outQ 7)) 0)
    ∗ semVal ((c : Thread nD τ), SemLoc.dma (⟨21, by decide⟩ : DmaSem sig)) 0)

/-- The kernel on device `c`, from whole buffers to whole buffers. -/
theorem whole_body {Q : PUnit → sProp 𝕄} (f b0 : Vec F S4096x1024 .f32) (s0 : Vec F S4x2x4096 .f32) :
    iprop((records m K ∗ levAts L lv ∗ ow c (O₀ c) ∗ payToks c ∗ poss c ∗ crds c ∗ sems c ∗ stgs m c
          ∗ ((c : Thread nD τ).loc main_arg0 ↦{fullShare} X m c) ∗ ((c : Thread nD τ).loc main_v1 ↦{fullShare} f)
          ∗ ((c : Thread nD τ).loc cc0_scratch0 ↦{fullShare} b0) ∗ ((c : Thread nD τ).loc cc0_scratch1 ↦{fullShare} s0))
        ∗ (iprop(ow c 0 ∗ zeros c ∗ sems c ∗ stgs m c
            ∗ ((c : Thread nD τ).loc main_arg0 ↦{fullShare} X m c) ∗ ((c : Thread nD τ).loc main_v1 ↦{fullShare} Y m c)
            ∗ ((c : Thread nD τ).loc cc0_scratch0 ↦{fullShare} Y m c) ∗ ((c : Thread nD τ).loc cc0_scratch1 ↦{fullShare} ST m c)) -∗ Q ⟨⟩))
      ⊢ WP c (cc0_body xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) Q := by
  simp only [rows_x, rows_o, rows_b, slots_eq]
  unfold sems
  iintro ⟨⟨#HR, #HL, HO, Ht, Hp, Hc, ⟨⟨V0, V1, V2, V3, V4, V5, V6, V7⟩, ⟨W0, W1, W2, W3, W4, W5, W6, W7⟩, Hu⟩, Hst,
    ⟨X0, X1, X2, X3, X4, X5, X6, X7⟩, ⟨O0, O1, O2, O3, O4, O5, O6, O7⟩, ⟨B0, B1, B2, B3, B4, B5, B6, B7⟩, ⟨S, S0, S1, S2⟩⟩, Hk⟩
  iapply (core_body m K c)
  isplitr [Hk Hu]
  · isplitr; · iexact HR
    isplitr; · iexact HL
    isplitl [HO]; · iexact HO
    isplitl [Ht]; · iexact Ht
    isplitl [Hp]; · iexact Hp
    isplitl [Hc]; · iexact Hc
    unfold slots0 ins0 outs0 inP outP
    isplitl [S S0 S1 S2]
    · isplitl [S]; · iexists s0; iexact S
      isplitl [S0]; · iexists s0; iexact S0
      isplitl [S1]; · iexists s0; iexact S1
      iexists s0; iexact S2
    isplitl [X0 B0 V0 X1 B1 V1 X2 B2 V2 X3 B3 V3 X4 B4 V4 X5 B5 V5 X6 B6 V6 X7 B7 V7]
    · isplitl [X0 B0 V0]
      · isplitl [X0]; · iexact X0
        isplitl [B0]; · iexists b0; iexact B0
        iexact V0
      isplitl [X1 B1 V1]
      · isplitl [X1]; · iexact X1
        isplitl [B1]; · iexists b0; iexact B1
        iexact V1
      isplitl [X2 B2 V2]
      · isplitl [X2]; · iexact X2
        isplitl [B2]; · iexists b0; iexact B2
        iexact V2
      isplitl [X3 B3 V3]
      · isplitl [X3]; · iexact X3
        isplitl [B3]; · iexists b0; iexact B3
        iexact V3
      isplitl [X4 B4 V4]
      · isplitl [X4]; · iexact X4
        isplitl [B4]; · iexists b0; iexact B4
        iexact V4
      isplitl [X5 B5 V5]
      · isplitl [X5]; · iexact X5
        isplitl [B5]; · iexists b0; iexact B5
        iexact V5
      isplitl [X6 B6 V6]
      · isplitl [X6]; · iexact X6
        isplitl [B6]; · iexists b0; iexact B6
        iexact V6
      isplitl [X7]; · iexact X7
      isplitl [B7]; · iexists b0; iexact B7
      iexact V7
    isplitl [O0 W0 O1 W1 O2 W2 O3 W3 O4 W4 O5 W5 O6 W6 O7 W7]
    · isplitl [O0 W0]
      · isplitl [O0]; · iexists f; iexact O0
        iexact W0
      isplitl [O1 W1]
      · isplitl [O1]; · iexists f; iexact O1
        iexact W1
      isplitl [O2 W2]
      · isplitl [O2]; · iexists f; iexact O2
        iexact W2
      isplitl [O3 W3]
      · isplitl [O3]; · iexists f; iexact O3
        iexact W3
      isplitl [O4 W4]
      · isplitl [O4]; · iexists f; iexact O4
        iexact W4
      isplitl [O5 W5]
      · isplitl [O5]; · iexists f; iexact O5
        iexact W5
      isplitl [O6 W6]
      · isplitl [O6]; · iexists f; iexact O6
        iexact W6
      isplitl [O7]; · iexists f; iexact O7
      iexact W7
    iexact Hst
  · unfold xDs outDs slots1 xD outD
    iintro ⟨HO, Hst, ⟨⟨X0, V0⟩, ⟨X1, V1⟩, ⟨X2, V2⟩, ⟨X3, V3⟩, ⟨X4, V4⟩, ⟨X5, V5⟩, ⟨X6, V6⟩, ⟨X7, V7⟩⟩, ⟨⟨O0, B0, W0⟩, ⟨O1, B1, W1⟩, ⟨O2, B2, W2⟩, ⟨O3, B3, W3⟩, ⟨O4, B4, W4⟩, ⟨O5, B5, W5⟩, ⟨O6, B6, W6⟩, ⟨O7, B7, W7⟩⟩, HS, Hz⟩
    iapply Hk
    isplitl [HO]; · iexact HO
    isplitl [Hz]; · iexact Hz
    isplitl [Hu V0 W0 V1 W1 V2 W2 V3 W3 V4 W4 V5 W5 V6 W6 V7 W7]
    · isplitl [V0 V1 V2 V3 V4 V5 V6 V7]
      · isplitl [V0]
        · iexact V0
        isplitl [V1]
        · iexact V1
        isplitl [V2]
        · iexact V2
        isplitl [V3]
        · iexact V3
        isplitl [V4]
        · iexact V4
        isplitl [V5]
        · iexact V5
        isplitl [V6]
        · iexact V6
        iexact V7
      isplitl [W0 W1 W2 W3 W4 W5 W6 W7]
      · isplitl [W0]
        · iexact W0
        isplitl [W1]
        · iexact W1
        isplitl [W2]
        · iexact W2
        isplitl [W3]
        · iexact W3
        isplitl [W4]
        · iexact W4
        isplitl [W5]
        · iexact W5
        isplitl [W6]
        · iexact W6
        iexact W7
      iexact Hu
    isplitl [Hst]; · iexact Hst
    isplitl [X0 X1 X2 X3 X4 X5 X6 X7]
    · isplitl [X0]
      · iexact X0
      isplitl [X1]
      · iexact X1
      isplitl [X2]
      · iexact X2
      isplitl [X3]
      · iexact X3
      isplitl [X4]
      · iexact X4
      isplitl [X5]
      · iexact X5
      isplitl [X6]
      · iexact X6
      iexact X7
    isplitl [O0 O1 O2 O3 O4 O5 O6 O7]
    · isplitl [O0]
      · iexact O0
      isplitl [O1]
      · iexact O1
      isplitl [O2]
      · iexact O2
      isplitl [O3]
      · iexact O3
      isplitl [O4]
      · iexact O4
      isplitl [O5]
      · iexact O5
      isplitl [O6]
      · iexact O6
      iexact O7
    isplitl [B0 B1 B2 B3 B4 B5 B6 B7]
    · isplitl [B0]
      · iexact B0
      isplitl [B1]
      · iexact B1
      isplitl [B2]
      · iexact B2
      isplitl [B3]
      · iexact B3
      isplitl [B4]
      · iexact B4
      isplitl [B5]
      · iexact B5
      isplitl [B6]
      · iexact B6
      iexact B7
    iexact HS

end Whole

end Cert.KernelIdeal.Ln

end
-- ==== Proof.KernelIdeal.Ghost.lean ====
/-
What the launch deals: the exchange's tokens, positions and invariants, and the credit each device waits for.
-/
module

public import Idealize.ShloMosaic.Lib.Pipeline.Kit
public import proofs.«01_k».proof.Proof.KernelIdeal.Held

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- The kernel's own semaphores. -/
abbrev osem : Fin 23 → SemLoc sig := fun k => .dma ⟨k.val + 2, by have := k.isLt; show k.val + 2 < 25; omega⟩
/-- The semaphores listed as the kernel's own are distinct and its own. -/
theorem ownSemFacts : Pipeline.OwnSemFacts cfg0.spec osem := by decide

/-- A device's own semaphores at zero, one by one; -/
theorem ownSems0_eq (c : Dev nD) :
    (Pipeline.ownSems0 (Ix := Unit) (Name := ℕ) (U := UU) (Lvl := ℕ) (Val := Elt F) (τ := τ) osem c : sProp 𝕄)
      = iprop(semVal ((c : Thread nD τ), SemLoc.dma (inQ 0)) 0 ∗ semVal ((c : Thread nD τ), SemLoc.dma (inQ 1)) 0 ∗ semVal ((c : Thread nD τ), SemLoc.dma (inQ 2)) 0 ∗ semVal ((c : Thread nD τ), SemLoc.dma (inQ 3)) 0 ∗ semVal ((c : Thread nD τ), SemLoc.dma (inQ 4)) 0 ∗ semVal ((c : Thread nD τ), SemLoc.dma (inQ 5)) 0 ∗ semVal ((c : Thread nD τ), SemLoc.dma (inQ 6)) 0 ∗ semVal ((c : Thread nD τ), SemLoc.dma (inQ 7)) 0 ∗ semVal ((c : Thread nD τ), SemLoc.dma (outQ 0)) 0 ∗ semVal ((c : Thread nD τ), SemLoc.dma (outQ 1)) 0 ∗ semVal ((c : Thread nD τ), SemLoc.dma (outQ 2)) 0 ∗ semVal ((c : Thread nD τ), SemLoc.dma (outQ 3)) 0 ∗ semVal ((c : Thread nD τ), SemLoc.dma (outQ 4)) 0 ∗ semVal ((c : Thread nD τ), SemLoc.dma (outQ 5)) 0 ∗ semVal ((c : Thread nD τ), SemLoc.dma (outQ 6)) 0 ∗ semVal ((c : Thread nD τ), SemLoc.dma (outQ 7)) 0 ∗ semVal (sendCell c 0) 0 ∗ semVal (sendCell c 1) 0 ∗ semVal (sendCell c 2) 0 ∗ semVal ((c : Thread nD τ), SemLoc.dma (⟨21, by decide⟩ : DmaSem sig)) 0 ∗ semVal (recvCell c 0) 0 ∗ semVal (recvCell c 1) 0 ∗ semVal (recvCell c 2) 0) := by
  rw [Pipeline.ownSems0_eq_of_list c osem [0, 1, 2, 3, 4, 5, 6, 7, 8, 9, 10, 11, 12, 13, 14, 15, 16, 17, 18, 19, 20, 21, 22] (by decide) (by decide)]; rfl
/-- its one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- A separating conjunction over seven, written out; -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- and over nine. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- All a device's semaphores: the seven of the exchange, and the others. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ sems c) : sProp 𝕄) := by
  rw [ownSems0_eq, unscopedSems0_eq, bigSep_fin7]
  unfold sems
  iintro ⟨⟨V0, V1, V2, V3, V4, V5, V6, V7, W0, W1, W2, W3, W4, W5, W6, W7, S0, S1, S2, U, R0, R1, R2⟩, HB⟩
  isplitl [HB S0 S1 S2 R0 R1 R2]
  · isplitl [HB]; · iexact HB
    isplitl [S0]; · iexact S0
    isplitl [S1]; · iexact S1
    isplitl [S2]; · iexact S2
    isplitl [R0]; · iexact R0
    isplitl [R1]; · iexact R1
    iexact R2
  isplitl [V0 V1 V2 V3 V4 V5 V6 V7]
  · isplitl [V0]
    · iexact V0
    isplitl [V1]
    · iexact V1
    isplitl [V2]
    · iexact V2
    isplitl [V3]
    · iexact V3
    isplitl [V4]
    · iexact V4
    isplitl [V5]
    · iexact V5
    isplitl [V6]
    · iexact V6
    iexact V7
  isplitl [W0 W1 W2 W3 W4 W5 W6 W7]
  · isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    iexact W7
  iexact U
/-- and back. -/
theorem sems0_back (c : Dev nD) :
    (iprop(zeros c ∗ sems c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold sems zeros
  iintro ⟨⟨HB, ⟨S0, S1, S2⟩, R0, R1, R2⟩, ⟨V0, V1, V2, V3, V4, V5, V6, V7⟩, ⟨W0, W1, W2, W3, W4, W5, W6, W7⟩, U⟩
  isplitl [HB]; · iexact HB
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [S0]; · iexact S0
  isplitl [S1]; · iexact S1
  isplitl [S2]; · iexact S2
  isplitl [U]; · iexact U
  isplitl [R0]; · iexact R0
  isplitl [R1]; · iexact R1
  iexact R2

/-! ## The launch's element -/

/-- Distinct devices and places name distinct cells. -/
theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : csem k = csem k' := congrArg Prod.snd h
  have : k = k' := by
    revert k k'
    intro k k' _ h2
    fin_cases k <;> fin_cases k' <;> first | rfl | exact absurd h2 (by decide)
  subst this; rfl
def ringCells : Finset (GSem nD τ sig) := Finset.univ.map ⟨kcell, kcell_injective⟩

/-- Which cell of a device, and which duty of it, each of its nine tokens is for. -/
def tokAt : Fin 9 → SemLoc sig × Fin 3 := fun
  | 0 => (.reg barS, Fin.rev 0) | 1 => (.reg barS, Fin.rev 1) | 2 => (.reg barS, Fin.rev 2)
  | 3 => (.dma (sendQ 0), 0) | 4 => (.dma (recvQ (Fin.rev 0)), 0)
  | 5 => (.dma (sendQ 1), 0) | 6 => (.dma (recvQ (Fin.rev 1)), 0)
  | 7 => (.dma (sendQ 2), 0) | 8 => (.dma (recvQ (Fin.rev 2)), 0)
abbrev tokOf (cj : Dev nD × Fin 9) : GSem nD τ sig × ℕ × Fin 3 := (((cj.1 : Thread nD τ), (tokAt cj.2).1), 0, (tokAt cj.2).2)
/-- A device's nine duties are distinct, -/
theorem tokAt_injective : Function.Injective tokAt := by
  intro j j' h
  fin_cases j <;> fin_cases j' <;> first | rfl | exact absurd h (by decide)
/-- and so are those of all devices. -/
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  have h2 : tokAt j = tokAt j' := congrArg (fun x : GSem nD τ sig × ℕ × Fin 3 => (x.1.2, x.2.2)) h
  rw [h1, tokAt_injective h2]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

section Deal
variable (m : (ℓ : Loc nD τ sig) → Buf (Elt F) ℓ)

/-- The tokens of the duties of device `c`'s own cells. -/
def toks (c : Dev nD) : sProp 𝕄 :=
  iprop((dutyTok ER (barCell c) 0 (Fin.rev 0) ∗ dutyTok ER (barCell c) 0 (Fin.rev 1) ∗ dutyTok ER (barCell c) 0 (Fin.rev 2))
    ∗ (dutyTok ER (sendCell c 0) 0 0 ∗ dutyTok ER (recvCell c (Fin.rev 0)) 0 0)
    ∗ (dutyTok ER (sendCell c 1) 0 0 ∗ dutyTok ER (recvCell c (Fin.rev 1)) 0 0)
    ∗ (dutyTok ER (sendCell c 2) 0 0 ∗ dutyTok ER (recvCell c (Fin.rev 2)) 0 0))

/-- What the launch element deals device `c`. -/
def G (c : Dev nD) : sProp 𝕄 :=
  iprop((bigSep Finset.univ fun k : Fin 7 => roundState ER (rd m) (kcell (c, k)) 0)
    ∗ (bigSep Finset.univ fun k : Fin 7 => iprop(atPos ER (kcell (c, k)) 0 ∅ 0 ∗ reached ER (kcell (c, k)) 0)) ∗ toks c)
/-- What the step over all devices makes of it. -/
def G' (c : Dev nD) : sProp 𝕄 := iprop(∃ K, records m K ∗ (poss c ∗ payToks c ∗ sems c))

/-- The launch's element gives every device its cells' round states, positions and duties' tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : (bigSep ringToks (fun x => (dutyTok ER x.1 x.2.1 x.2.2 : sProp 𝕄)) : sProp 𝕄) ⊢ bigSep Finset.univ fun c : Dev nD => toks c := by
    unfold ringToks; rw [bigSep_map, bigSep_univ_prod]
    refine bigSep_mono fun c _ => ?_
    rw [bigSep_fin9]
    show iprop(dutyTok ER (tokOf (c, 0)).1 (tokOf (c, 0)).2.1 (tokOf (c, 0)).2.2 ∗ dutyTok ER (tokOf (c, 1)).1 (tokOf (c, 1)).2.1 (tokOf (c, 1)).2.2 ∗ dutyTok ER (tokOf (c, 2)).1 (tokOf (c, 2)).2.1 (tokOf (c, 2)).2.2 ∗ dutyTok ER (tokOf (c, 3)).1 (tokOf (c, 3)).2.1 (tokOf (c, 3)).2.2 ∗ dutyTok ER (tokOf (c, 4)).1 (tokOf (c, 4)).2.1 (tokOf (c, 4)).2.2 ∗ dutyTok ER (tokOf (c, 5)).1 (tokOf (c, 5)).2.1 (tokOf (c, 5)).2.2 ∗ dutyTok ER (tokOf (c, 6)).1 (tokOf (c, 6)).2.1 (tokOf (c, 6)).2.2 ∗ dutyTok ER (tokOf (c, 7)).1 (tokOf (c, 7)).2.1 (tokOf (c, 7)).2.2 ∗ dutyTok ER (tokOf (c, 8)).1 (tokOf (c, 8)).2.1 (tokOf (c, 8)).2.2) ⊢ toks c
    unfold toks
    iintro ⟨T0, T1, T2, T3, T4, T5, T6, T7, T8⟩
    isplitl [T0 T1 T2]
    · isplitl [T0]; · iexact T0
      isplitl [T1]; · iexact T1
      iexact T2
    isplitl [T3 T4]
    · isplitl [T3]; · iexact T3
      iexact T4
    isplitl [T5 T6]
    · isplitl [T5]; · iexact T5
      iexact T6
    isplitl [T7]; · iexact T7
    iexact T8
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- A device's counters at zero and its round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ (toks c ∗ sems c)) := by
  unfold G
  iintro ⟨Hos, Hus, Hst, Hat, Htok⟩
  ihave Hv := (sems0_eq (F := F) c) $$ [Hos Hus]
  · isplitl [Hos] <;> iassumption
  icases Hv with ⟨Hv, Hsm⟩
  imod (show iprop((bigSep Finset.univ fun k : Fin 7 => semVal (kcell (c, k)) 0) ∗ bigSep Finset.univ fun k : Fin 7 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens dealt around: a barrier's and a receive's to the device that pays them. -/
theorem toks_around : (bigSep Finset.univ fun c : Dev nD => (toks c : sProp 𝕄)) ⊢ bigSep Finset.univ fun c : Dev nD => payToks c := by
  unfold toks payToks
  simp only [bigSep_sep']
  rw [bigSep_univ_equiv (turn 0) (fun c : Dev nD => (dutyTok ER (barCell c) 0 (Fin.rev 0) : sProp 𝕄)),
    bigSep_univ_equiv (turn 1) (fun c : Dev nD => (dutyTok ER (barCell c) 0 (Fin.rev 1) : sProp 𝕄)),
    bigSep_univ_equiv (turn 2) (fun c : Dev nD => (dutyTok ER (barCell c) 0 (Fin.rev 2) : sProp 𝕄)),
    bigSep_univ_equiv (turn 0) (fun c : Dev nD => (dutyTok ER (recvCell c (Fin.rev 0)) 0 0 : sProp 𝕄)),
    bigSep_univ_equiv (turn 1) (fun c : Dev nD => (dutyTok ER (recvCell c (Fin.rev 1)) 0 0 : sProp 𝕄)),
    bigSep_univ_equiv (turn 2) (fun c : Dev nD => (dutyTok ER (recvCell c (Fin.rev 2)) 0 0 : sProp 𝕄))]
  exact Entails.refl _

/-- A persistent fact may be used in every part of a separating conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions in its seven cells, grouped as the body takes them. -/
theorem poss_intro (c : Dev nD) : (bigSep Finset.univ fun k : Fin 7 => (atPos ER (kcell (c, k)) 0 ∅ 0 : sProp 𝕄)) ⊢ poss c := by
  rw [bigSep_fin7]
  unfold poss
  iintro ⟨T0, T1, T2, T3, T4, T5, T6⟩
  isplitl [T0]; · iexact T0
  isplitl [T1 T2 T3]
  · isplitl [T1]; · iexact T1
    isplitl [T2]; · iexact T2
    iexact T3
  isplitl [T4]; · iexact T4
  isplitl [T5]; · iexact T5
  iexact T6

/-- All devices' invariants together are what each device reads of the exchange. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ (toks c ∗ sems c)) : sProp 𝕄)
      ⊢ bigSep Finset.univ (G' m) := by
  rw [bigSep_sep', bigSep_sep', bigSep_sep', ← bigSep_univ_prod (fun ck : Dev nD × Fin 7 => iprop(∃ κ : ℕ, cellInv ER (rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hsm⟩
  ihave HK := (BI.bigSep_exists_pi Finset.univ (fun (ck : Dev nD × Fin 7) (κ : ℕ) => (cellInv ER (rd m) κ (kcell ck) : sProp 𝕄))) $$ HI
  icases HK with ⟨%K, #HI⟩
  ihave Htk := (toks_around (F := F)) $$ Htok
  have hps : (bigSep Finset.univ fun c : Dev nD => bigSep Finset.univ fun k : Fin 7 => (atPos ER (kcell (c, k)) 0 ∅ 0 : sProp 𝕄)) ⊢ bigSep Finset.univ fun c : Dev nD => poss c :=
    bigSep_mono fun c _ => poss_intro (F := F) c
  ihave Hps := hps $$ Hat
  iapply (bigSep_with_persistent (R := records m K) (Φ := fun c => iprop(poss c ∗ payToks c ∗ sems c)) fun c _ => show _ ⊢ G' m c from by
    unfold G'
    iintro H
    iexists K
    iexact H)
  isplitr
  · unfold records; isplitl; · iexact HI
    iexact HR
  · simp only [bigSep_sep']
    isplitl [Hps]; · iexact Hps
    isplitl [Htk]; · iexact Htk
    iexact Hsm

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Deal

/-! ## The launch's credit -/

/-- Barrier cells are equal where the devices are; -/
theorem bar_eq_iff {a b : Dev nD} : Iff (barCell a = barCell b) (a = b) :=
  ⟨fun h => congrArg (fun g : GSem nD τ sig => g.1.1) h, fun h => h ▸ rfl⟩
/-- the receive semaphores are distinct, -/
theorem recvQ_ne {i j : Fin 3} (h : recvQ i = recvQ j) : i = j := by
  revert i j; decide
/-- so receive cells are equal where devices and slots are; -/
theorem recv_eq_iff {a b : Dev nD} {i j : Fin 3} : Iff (recvCell a i = recvCell b j) (a = b ∧ i = j) :=
  ⟨fun h => ⟨congrArg (fun g : GSem nD τ sig => g.1.1) h, recvQ_ne (SemLoc.dma.inj (congrArg Prod.snd h))⟩, fun h => by rw [h.1, h.2]⟩
/-- and no barrier cell is a receive cell. -/
theorem bar_recv {a b : Dev nD} {i : Fin 3} : barCell a ≠ recvCell b i := fun h => by cases congrArg Prod.snd h

/-- What device `d` owes device `c`'s barrier cell, -/
theorem owed_bar (d c : Dev nD) :
    O₀ d (barCell c) () = (if c = peer d 2 then 1 else 0) + (if c = peer d 1 then 1 else 0) + (if c = peer d 0 then 1 else 0) := by
  unfold O₀ OB1 OB2 OR0 OR1 OR2
  simp only [Pi.add_apply, Finsupp.add_apply, tallyAt_apply, Pi.zero_apply, Finsupp.zero_apply, bar_eq_iff, bar_recv, false_and, if_false, and_true, Nat.zero_add]
/-- and each of its receive cells. -/
theorem owed_recv (d c : Dev nD) (i : Fin 3) : O₀ d (recvCell c i) () = if d = peer c i then N else 0 := by
  unfold O₀ OB1 OB2 OR0 OR1 OR2
  simp only [Pi.add_apply, Finsupp.add_apply, tallyAt_apply, Pi.zero_apply, Finsupp.zero_apply, recv_eq_iff, bar_recv.symm, false_and, if_false, and_true,
    Nat.zero_add, Nat.add_zero]
  have h0 : (c = peer d 2 ∧ i = Fin.rev 2) ↔ (d = peer c i ∧ i = Fin.rev 2) := by revert d c i; decide
  have h1 : (c = peer d 1 ∧ i = Fin.rev 1) ↔ (d = peer c i ∧ i = Fin.rev 1) := by revert d c i; decide
  have h2 : (c = peer d 0 ∧ i = Fin.rev 0) ↔ (d = peer c i ∧ i = Fin.rev 0) := by revert d c i; decide
  simp only [h0, h1, h2]
  generalize N = n
  by_cases h : d = peer c i
  · simp only [h, true_and, if_true]
    fin_cases i <;> simp [Fin.rev]
  · simp only [h, false_and, if_false]

/-- The launch credits a device's barrier cell with three units, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
/-- and each of its receive cells with one transfer's. -/
theorem launch_recv (c : Dev nD) (i : Fin 3) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (peer c i) fun _ => N,
    if_pos (Finset.mem_univ _)]

/-- The credits device `c` waits for. -/
theorem creds (c : Dev nD) : (Pipeline.launchCred O₀ c : sProp 𝕄) ⊢ crds c := by
  unfold Pipeline.launchCred
  refine (BI.bigSep_subset (t := {SemLoc.reg barS, SemLoc.dma (recvQ 0), SemLoc.dma (recvQ 1), SemLoc.dma (recvQ 2)}) (Finset.subset_univ _)).trans ?_
  rw [bigSep_eq_bigSepL_of_eq [SemLoc.reg barS, SemLoc.dma (recvQ 0), SemLoc.dma (recvQ 1), SemLoc.dma (recvQ 2)] (by decide) (by decide)]
  simp only [bigSepL_cons_cons, bigSepL_singleton]
  rw [launch_bar, launch_recv, launch_recv, launch_recv]
  exact Entails.refl _

end Cert.KernelIdeal.Ln

end
-- ==== Proof.KernelIdeal.Launch.lean ====
/-
The kernel launched on the four devices: its run, over any float values. Every run ends with `x`, `gamma` and `beta` as they
were, the result's block on each device the normalised block of `Values.lean`, and every semaphore counter at zero.
-/
module

public import proofs.«01_k».proof.Proof.Gen.KernelIdeal.Launch
public import proofs.«01_k».proof.Proof.Gen.KernelIdeal.Points
public import Idealize.ShloMosaic.Lib.Pipeline.CollectiveSegs
public import proofs.«01_k».proof.Proof.KernelIdeal.Ghost

@[expose] public section

noncomputable section

namespace Cert.KernelIdeal.Ln

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

section Launch
variable (m : (ℓ : Loc nD τ sig) → Buf (Elt F) ℓ) (ρ : Dev nD → PrngReg)

/-- What device `c` brings to its kernel besides the on-chip buffers. -/
def start (c : Dev nD) : sProp 𝕄 :=
  iprop(G' m c ∗ crds c ∗ levAts L lv ∗ ((c : Thread nD τ).loc main_arg0 ↦{fullShare} X m c) ∗ (∃ f, (c : Thread nD τ).loc main_v1 ↦{fullShare} f))
def Φ₀ (c : Dev nD) : sProp 𝕄 :=
  iprop(start m c ∗ (∃ f, (c : Thread nD τ).loc cc0_scratch0 ↦{fullShare} f) ∗ (∃ f, (c : Thread nD τ).loc cc0_scratch1 ↦{fullShare} f))
/-- What it leaves. -/
def Φ₁ (c : Dev nD) : sProp 𝕄 :=
  iprop(zeros c ∗ sems c ∗ ((c : Thread nD τ).loc main_arg0 ↦{fullShare} X m c) ∗ ((c : Thread nD τ).loc main_v1 ↦{fullShare} Y m c)
    ∗ ((c : Thread nD τ).loc cc0_scratch0 ↦{fullShare} Y m c) ∗ ((c : Thread nD τ).loc cc0_scratch1 ↦{fullShare} ST m c))
/-- What is read of it at the end. -/
def finY (c : Dev nD) : sProp 𝕄 :=
  iprop(unscopedSems0 c ∗ ((c : Thread nD τ).loc main_arg0 ↦{fullShare} X m c) ∗ ((c : Thread nD τ).loc main_v1 ↦{fullShare} Y m c))

/-- The staged pipeline's data: `gamma` and `beta` staged and left as they are. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gv m c
    | ⟨1, _⟩ => ev m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole buffer at contents `Z` is holding it at contents equal to `Z`. -/
theorem owns_whole_eq (c : Dev nD) (b : Ref sig .tc) (Z : b.ty.Contents (Elt F)) :
    (owns (Ix := Unit) (Name := ℕ) (U := UU) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

/-- A staging buffer at contents `Z`. -/
abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

/-- When the body starts, the first staging buffer holds `gamma`'s block, -/
theorem before_g (c : Dev nD) (d) : (dats m ρ 0 c).before (0 : Fin 2) t0_0 d = gv m c := by
  unfold Dat.before; rw [if_pos (fetch0_0 t0_0)]; rfl
/-- and the second `beta`'s. -/
theorem before_e (c : Dev nD) (d) : (dats m ρ 0 c).before (1 : Fin 2) t0_0 d = ev m c := by
  unfold Dat.before; rw [if_pos (fetch0_1 t0_0)]; rfl

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (gv m c) ∗ stg c cc0_stg1_0 (ev m c))

/-- The body, from what the launch gives it, ends with the result written and the staging buffers as they were. -/
theorem sound_body (c : Dev nD) :
    bodyPre m ρ c ⊢ WP c (cc0_body xM (Memref.isWhole_whole _) gM (Memref.isWhole_whole _) eM (Memref.isWhole_whole _) oM (Memref.isWhole_whole _)
          bM (Memref.isWhole_whole _) sM (Memref.isWhole_whole _) cc0_scratch2 cc0_scratch3 cc0_scratch4 cc0_scratch5) (fun _ => bodyPost m ρ c) := by
  unfold bodyPre Φ₀ start G'
  iintro ⟨⟨⟨⟨%K, #HR, Hp, Ht, Hs⟩, Hc, #HL, HX, ⟨%f, HY⟩⟩, ⟨%b0, HB⟩, ⟨%s0, HS⟩⟩, Ho, ⟨%d0, %g0, %hg0, Hg⟩, ⟨%d1, %g1, %hg1, He⟩⟩
  rw [before_g] at hg0
  rw [before_e] at hg1
  subst hg0
  subst hg1
  unfold Dat.owesAt Pipeline.owesWithin
  icases Ho with ⟨%W, %hW, HO⟩
  rw [show (dats m ρ 0 c).owed t0_0.castSucc = O₀ c from rfl]
  iapply (whole_body m K c f b0 s0)
  isplitl
  · isplitr; · iexact HR
    isplitr; · iexact HL
    isplitl [HO]; · unfold ow; iexists W; iexact HO
    isplitl [Ht]; · iexact Ht
    isplitl [Hp]; · iexact Hp
    isplitl [Hc]; · iexact Hc
    isplitl [Hs]; · iexact Hs
    isplitl [Hg He]
    · unfold stgs
      isplitl [Hg]; · iexact Hg
      iexact He
    isplitl [HX]; · iexact HX
    isplitl [HY]; · iexact HY
    isplitl [HB]; · iexact HB
    iexact HS
  · unfold ow stgs
    iintro ⟨⟨%W', HO⟩, Hz, Hs, ⟨Hg, He⟩, HX, HY, HB, HS⟩
    unfold bodyPost Φ₁ Dat.owesAt Pipeline.owesWithin
    rw [show (dats m ρ 0 c).owed t0_0.succ = 0 from rfl]
    isplitl [Hz Hs HX HY HB HS]
    · isplitl [Hz]; · iexact Hz
      isplitl [Hs]; · iexact Hs
      isplitl [HX]; · iexact HX
      isplitl [HY]; · iexact HY
      isplitl [HB]; · iexact HB
      iexact HS
    isplitl [HO]
    · iexists W'
      isplitr; · ipureintro; exact fun _ _ => Or.inl trivial
      iexact HO
    isplitl [Hg]
    · iexists _; isplitr; · (ipureintro; rfl)
      iexact Hg
    iexists _; isplitr; · (ipureintro; rfl)
    iexact He

set_option maxRecDepth 4000 in
/-- The pipeline's obligation: the kernel, on each device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch theorem's side conditions -/

/-- Every window's buffer is held at the full share. -/
theorem share_eq (c : Dev nD) (w : Fin cfg0.W) : (dats m ρ 0 c).share w = fullShare := by unfold Dat.share; split <;> rfl

/-- What the launch leaves a device with is what its body starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨⟨HX, HY⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [HX]; · iexact HX
    iexists _; iexact HY
  · iempintro

/-- together with its scratch buffers; -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀
  iintro ⟨Hs, -, Hr⟩
  isplitl [Hs]; · iexact Hs
  iexact Hr

/-- and what the body ends with gives the result, the semaphores and the scratch buffers back. -/
theorem phi1_exit (c : Dev nD) :
    (dats m ρ 0 c).Φ (Fin.last cfg0.N) ⊢ iprop(finY m c ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ finY
  iintro ⟨Hz, Hs, HX, HY, HB, HS⟩
  ihave Hv := (sems0_back (F := F) c) $$ [Hz Hs]
  · isplitl [Hz]; · iexact Hz
    iexact Hs
  icases Hv with ⟨Hu, Ho⟩
  isplitl [Hu HX HY]
  · isplitl [Hu]; · iexact Hu
    isplitl [HX]; · iexact HX
    iexact HY
  isplitl [Ho]; · iexact Ho
  isplitl [HB]; · iexists _; iexact HB
  iexists _; iexact HS

/-- The waits for the staged copies are below everything that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr (Or.inr rfl))

/-- What the end of the run is read for. -/
def Ends (c : Dev nD) (s : MemSt nD τ sig (Elt F)) : Prop :=
  s.mem ((c : Thread nD τ).loc main_arg0) = X m c ∧ s.mem ((c : Thread nD τ).loc main_v1) = Y m c
    ∧ ∀ sm : SemLoc sig, sm.isScoped .tc = false → s.sem ((c.tc : Thread nD τ), sm) = 0

/-- The end state's memory and unscoped counters are read off what a device ends with. -/
theorem fin_read (c : Dev nD) (s' : Phys nD τ sig (Elt F)) :
    iprop(finY m c ∗ emp ∗ SI s') ⊢ |={Set.univ}=> iprop(⌜Ends m c s'.mem⌝ ∗ SI s') := by
  unfold finY Ends
  iintro ⟨⟨Hu, HX, HY⟩, -, HSI⟩
  icombine HSI HX gives %hx
  icombine HSI HY gives %hy
  imod (Pipeline.unscopedSems0_read (X := unscopedSems0 c) (c := c) fupd_intro s') $$ [Hu HSI] with ⟨%hs, HSI⟩
  · isplitl [Hu] <;> iassumption
  imodintro
  isplitr
  · ipureintro
    exact ⟨Buf.eq_of_forall_mem_univ hx, Buf.eq_of_forall_mem_univ hy, hs⟩
  iexact HSI

/-- The end of a run: the arguments as they were, each device's block of the result, every counter zero. -/
def Post (r : PUnit × MemSt nD τ sig (Elt F)) : Prop :=
  (∀ c : Dev nD, r.2.mem ((c : Thread nD τ).loc main_v1) = Y m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

set_option maxRecDepth 8000 in
/-- Every weakly fair run of the four devices' kernels, from any memory with zero counters, ends so. -/
theorem run_main : θ_run defs (onTc (τ := τ) (main (F := F))) (s₀ m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      have h : BI.own ((embR : Emb (UB × Counters) 𝕄) (initOf ringCells ringToks, (1 : Counters))) ⊢ (iprop(BI.own (ER (initOf ringCells ringToks))
          ∗ BI.own (((Emb.inr : Emb Counters (UB × Counters)).trans (embR : Emb (UB × Counters) 𝕄)) (1 : Counters))) : sProp 𝕄) :=
        own_pair_emb (embR : Emb (UB × Counters) 𝕄) (initOf ringCells ringToks : UB) (1 : Counters)
      unfold u₀
      iintro Hu
      ihave H := (ownU_pair _ _) $$ Hu
      icases H with ⟨HP, HX⟩
      ihave H := h $$ HX
      icases H with ⟨HX, -⟩
      imod (fund_ring m) $$ HX with HG
      imodintro
      isplitl [HP] <;> iassumption)
    (hglob := glob m)
    (hA := fun _ _ => rfl) (hpf := fun _ k => k.elim0)
    (X := start m) (Y := finY m) (Z := fun _ => iprop(emp))
    (hX := start_intro m ρ) (hin := phi0_intro m ρ) (hout := phi1_exit m ρ)
    (QY := Ends m) (hY := fin_read m)
    (hQ := fun s h hs => ⟨fun c => ⟨(h c).2.2.2.1, (h c).2.2.1,
        ((h c).1 (0 : Fin 2)).trans ((dats (F := F) m ρ 0 c).arrAt_in (0 : Fin 2) rfl _),
        ((h c).1 (1 : Fin 2)).trans ((dats (F := F) m ρ 0 c).arrAt_in (1 : Fin 2) rfl _)⟩,
      sem_eq_zero hs fun c => (h c).2.2.2.2⟩)

end Launch

end Cert.KernelIdeal.Ln

end
-- ==== Proof.Frames.lean ====
/- The frames of the three programs: each run terminates, leaves the arguments as they were and every
   semaphore counter at zero. The two kernels' come from their runs, the reference's from the run of its host operations. -/
module

public import proofs.«01_k».proof.Defs
public import proofs.«01_k».proof.Proof.Kernel.Launch
public import proofs.«01_k».proof.Proof.KernelIdeal.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel at the chip's floats ends with its arguments unchanged and its counters at zero. -/
theorem frame_kernel : Cert.quiescent_Kernel (hKernel := Cert.Kernel.Gen.facts) := by
  intro m ρ _
  exact (θ_run Cert.Kernel.defs _ _).mono (fun _ h => ⟨fun c => (h.1 c).2, h.2⟩) (Cert.Kernel.Ln.run_main (F := Bits) m ρ)

/-- The kernel at the ideal floats ends with its arguments unchanged and its counters at zero. -/
theorem frame_ideal : Cert.quiescent_KernelIdeal (hKernelIdeal := Cert.KernelIdeal.Gen.facts) := by
  intro m ρ _
  exact (θ_run Cert.KernelIdeal.defs _ _).mono (fun _ h => ⟨fun c => (h.1 c).2, h.2⟩) (Cert.KernelIdeal.Ln.run_main (F := Ideal) m ρ)

/-- The reference at the ideal floats ends with its arguments unchanged and its counters at zero. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The side condition the precondition's own operation takes, on a device's block. -/
theorem preKernel : Cert.Pre_x_finite_KernelIdeal.Facts where
  bcast_S_S4096x1024 := by decide

/-- The side condition the precondition's own operation takes, on the whole array. -/
theorem preReference : Cert.Pre_x_finite_ReferenceIdeal.Facts where
  bcast_S_S4096x4096 := by decide

/-- The frame of the kernel at the ideal floats, from the memories the precondition admits. -/
theorem frame_ideal_pre : Cert.quiescent_KernelIdeal_pre_x_finite_KernelIdeal (hKernelIdeal := Cert.KernelIdeal.Gen.facts)
    (hPre_x_finite_KernelIdeal := preKernel) :=
  fun m ρ _ => frame_ideal m ρ trivial

/-- The frame of the reference, from the memories the precondition admits. -/
theorem frame_reference_pre : Cert.quiescent_ReferenceIdeal_pre_x_finite_ReferenceIdeal (hReferenceIdeal := Cert.ReferenceIdeal.Gen.facts)
    (hPre_x_finite_ReferenceIdeal := preReference) :=
  fun m ρ _ => frame_reference m ρ trivial

end Cert.Proof

end
-- ==== Proof.Value.Finite.lean ====
/- What the precondition says: every entry of a device's block of `x` is a real number. -/
module

public import proofs.«01_k».proof.Pre_x_finite_KernelIdeal
public import Idealize.ShloMosaic.Lib.Pointwise

@[expose] public section

noncomputable section

namespace Cert.Finite

open Idealize.ShloMosaic
open Cert.Pre_x_finite_KernelIdeal

/-- The word the precondition compares with is +∞. -/
theorem inf_word : Ideal.ofBits .f32 0x7F800000#32 = ⊤ := by
  simp [Ideal.ofBits, Ideal.ieee]

/-- An extended real whose absolute value is below +∞ is a real. -/
theorem exists_real (v : EReal) (h : max v (-v) < ⊤) : ∃ a : ℝ, v = (a : EReal) := by
  induction v using EReal.rec with
  | bot => simp at h
  | coe a => exact ⟨a, rfl⟩
  | top => simp at h

/-- Under the precondition every entry of the block is a real. -/
theorem real_of_pre [Facts] (x : FVec Ideal S4096x1024 .f32) (g b : FVec Ideal S1024 .f32) (h : fn x g b = fun _ => 1#1) (j : S4096x1024.Idx) :
    ∃ a : ℝ, x j = (a : EReal) := by
  have hj := congrFun h j
  unfold fn at hj
  pointwise at hj
  rw [inf_word] at hj
  by_cases hlt : max (x j : EReal) (-(x j : EReal)) < ⊤
  · exact exists_real (x j) hlt
  · exact absurd (hj.symm.trans (congrArg BitVec.ofBool (decide_eq_false hlt))) (by decide)

end Cert.Finite

end
-- ==== Proof.Value.Out.lean ====
/- What the kernel's payloads compute over the extended reals, read at an index: the statistics of a block of rows and
   the normalised block. -/
module

public import proofs.«01_k».proof.Proof.KernelIdeal.Values
public import Idealize.ShloMosaic.Lib.Pointwise

@[expose] public section

noncomputable section

namespace Cert.KernelIdeal.Ln

open Cert.KernelIdeal Cert.KernelIdeal.Gen
open Idealize.ShloMosaic

/-- The statistics `a` (0 the sum, 1 the sum of squares) of row `r`, summed over the four slots. -/
def total (s0 s1 s2 s3 : Vec Ideal S1x2x4096 .f32) (a : Fin 2) (r : Fin 4096) : EReal :=
  s0 (ix3 0 a r) + s1 (ix3 0 a r) + s2 (ix3 0 a r) + s3 (ix3 0 a r)

/-- The mean the kernel takes of row `r`. -/
def meanOf (s0 s1 s2 s3 : Vec Ideal S1x2x4096 .f32) (r : Fin 4096) : EReal :=
  Ideal.div (total s0 s1 s2 s3 0 r) (Ideal.ofBits .f32 0x45800000#32)

/-- The reciprocal root the kernel takes of row `r`. -/
def rstdOf (s0 s1 s2 s3 : Vec Ideal S1x2x4096 .f32) (r : Fin 4096) : EReal :=
  Ideal.rsqrt (Ideal.div (total s0 s1 s2 s3 1 r) (Ideal.ofBits .f32 0x45800000#32)
    - meanOf s0 s1 s2 s3 r * meanOf s0 s1 s2 s3 r + Ideal.ofBits .f32 0x3727C5AC#32)

/-- The kernel's column of means, at a row. -/
theorem pay15_apply (s0 s1 s2 s3 : Vec Ideal S1x2x4096 .f32) (r : Fin 4096) :
    k0_pay15 s0 s1 s2 s3 (ix2 r 0) = meanOf s0 s1 s2 s3 r := by
  pointwise [k0_pay15, k0_pay14, meanOf, total]

/-- The kernel's column of reciprocal roots, at a row. -/
theorem pay16_apply (s0 s1 s2 s3 : Vec Ideal S1x2x4096 .f32) (r : Fin 4096) :
    k0_pay16 s0 s1 s2 s3 (ix2 r 0) = rstdOf s0 s1 s2 s3 r := by
  pointwise [k0_pay16, k0_pay15, k0_pay14, meanOf, total, rstdOf]

/-- Row `r` of chunk `b`, in the whole block. -/
def rowAt (b : Fin 8) (r : Fin 512) : Fin 4096 := ⟨512 * b.val + r.val, by omega⟩

/-- The normalised block at an index. -/
theorem outB_apply (s0 s1 s2 s3 : Vec Ideal S1x2x4096 .f32) (g e : Vec Ideal S1024 .f32) (x : Vec Ideal S512x1024 .f32)
    (b : Fin 8) (r : Fin 512) (k : Fin 1024) :
    outB s0 s1 s2 s3 g e x b (ix2 r k)
      = (x (ix2 r k) - meanOf s0 s1 s2 s3 (rowAt b r)) * rstdOf s0 s1 s2 s3 (rowAt b r) * g (ix1 k) + e (ix1 k) := by
  rw [← pay15_apply, ← pay16_apply]
  fin_cases b <;>
    pointwise [outB, rowAt, k0_pay17, k0_pay18, k0_pay19, k0_pay20, k0_pay21, k0_pay22, k0_pay23, k0_pay24, k0_pay25, k0_pay26, k0_pay27,
      k0_pay28, k0_pay29, k0_pay30, k0_pay31, k0_pay32, k0_pay33]

end Cert.KernelIdeal.Ln

end
-- ==== Proof.Value.Math.lean ====
/- Layer normalisation over the reals: the variance as the mean of the squares less the square of the mean, and the
   quotient by the root as the product with the reciprocal root. -/
module

public import Idealize.ShloMosaic.Lib.Pointwise

@[expose] public section

noncomputable section

namespace Cert.LayerNorm

open Idealize.ShloMosaic

/-- The word of the row's length is 4096. -/
theorem length_word : Ideal.ofBits .f32 0x45800000#32 = ((4096 : ℝ) : EReal) := by
  simp [Ideal.ofBits, Ideal.ieee, -EReal.coe_mul]
  norm_num

/-- The word of the small constant under the root is a positive real. -/
theorem eps_word : ∃ e : ℝ, 0 < e ∧ Ideal.ofBits .f32 0x3727C5AC#32 = (e : EReal) := by
  refine ⟨_, ?_, by simp [Ideal.ofBits, Ideal.ieee, -EReal.coe_mul]; rfl⟩
  positivity

/-- A sum of reals, as extended reals. -/
theorem coe_sum {ι : Type} [Fintype ι] (f : ι → ℝ) : ∑ a, (f a : EReal) = ((∑ a, f a : ℝ) : EReal) := by
  induction (Finset.univ : Finset ι) using Finset.cons_induction with
  | empty => simp
  | cons a s ha ih => rw [Finset.sum_cons, Finset.sum_cons, ih, EReal.coe_add]

/-- The mean of the squares less the square of the mean is the mean of the squared distances from the mean. -/
theorem variance {n : ℝ} {ι : Type} [Fintype ι] (hn : (Fintype.card ι : ℝ) = n) (h0 : n ≠ 0) (x : ι → ℝ) :
    (∑ a, x a * x a) * (1 / n) - (∑ a, x a) * (1 / n) * ((∑ a, x a) * (1 / n))
      = (∑ a, (x a - (∑ a, x a) * (1 / n)) * (x a - (∑ a, x a) * (1 / n))) * (1 / n) := by
  set μ := (∑ a, x a) * (1 / n) with hμ
  have hs : ∑ a, x a = n * μ := by rw [hμ]; field_simp
  have h : ∑ a, (x a - μ) * (x a - μ) = (∑ a, x a * x a) - 2 * μ * (∑ a, x a) + n * (μ * μ) := by
    have e : ∀ a, (x a - μ) * (x a - μ) = x a * x a - 2 * μ * x a + μ * μ := fun a => by ring
    simp only [e, Finset.sum_add_distrib, Finset.sum_sub_distrib, ← Finset.mul_sum, Finset.sum_const, Finset.card_univ,
      nsmul_eq_mul, hn]
    ring
  rw [h, hs]
  field_simp
  ring

/-- The mean of a row of which `s` is the sum. -/
def meanR (s : EReal) : EReal := Ideal.div s (Ideal.ofBits .f32 0x45800000#32)

/-- The mean of a real sum is real. -/
theorem meanR_coe (s : ℝ) : meanR (s : EReal) = ((s * (1 / 4096) : ℝ) : EReal) := by
  unfold meanR
  rw [length_word, Ideal.div_coe (by norm_num), ← EReal.coe_mul]

/-- The layer-norm equation at one entry `y` of a row `x` of reals, for arbitrary `g` and `b`: multiplied by the
    reciprocal root of the one form of the variance, or divided by the root of the other. -/
theorem layerNorm (x : Fin 4096 → ℝ) (y : ℝ) (g b : EReal) :
    ((y : EReal) - meanR (∑ a, (x a : EReal)))
        * Ideal.rsqrt (meanR (∑ a, (x a : EReal) * (x a : EReal)) - meanR (∑ a, (x a : EReal)) * meanR (∑ a, (x a : EReal))
            + Ideal.ofBits .f32 0x3727C5AC#32)
        * g + b
      = Ideal.div (g * ((y : EReal) - meanR (∑ a, (x a : EReal))))
          (Ideal.sqrt (meanR (∑ a, ((x a : EReal) - meanR (∑ a, (x a : EReal))) * ((x a : EReal) - meanR (∑ a, (x a : EReal))))
            + Ideal.ofBits .f32 0x3727C5AC#32)) + b := by
  obtain ⟨e, he, hw⟩ := eps_word
  have hcard : (Fintype.card (Fin 4096) : ℝ) = 4096 := by simp
  have hv := variance hcard (by norm_num) x
  rw [hw, coe_sum, meanR_coe]
  simp only [← EReal.coe_mul, ← EReal.coe_sub, coe_sum, meanR_coe, ← EReal.coe_add]
  rw [hv]
  set μ := (∑ a, x a) * (1 / 4096)
  set v := (∑ a, (x a - μ) * (x a - μ)) * (1 / 4096) with hvd
  have hv0 : 0 ≤ v := mul_nonneg (Finset.sum_nonneg fun a _ => mul_self_nonneg _) (by norm_num)
  have hpos : 0 < v + e := by linarith
  have hr : Real.sqrt (v + e) ≠ 0 := (Real.sqrt_pos.2 hpos).ne'
  rw [Ideal.rsqrt_coe, Ideal.sqrt_coe, if_neg (not_lt.2 hpos.le), if_neg (not_lt.2 hpos.le), if_neg hpos.ne',
    Ideal.div_coe hr, one_div]
  congr 1
  rw [mul_comm _ g, mul_assoc]

end Cert.LayerNorm

end
-- ==== Proof.Value.Stats.lean ====
/- What a device's statistics are over the extended reals: the sum and the sum of squares of each row of its block. -/
module

public import proofs.«01_k».proof.Proof.Value.Out
public import proofs.«01_k».proof.Proof.Value.Math

@[expose] public section

noncomputable section

namespace Cert.KernelIdeal.Ln

open Cert.KernelIdeal Cert.KernelIdeal.Gen
open Idealize.ShloMosaic
open Cert.LayerNorm (meanR)

/-- The statistics of eight chunks of rows, as one slot. -/
def stB (x : Fin 8 → Vec Ideal S512x1024 .f32) : Vec Ideal S1x2x4096 .f32 :=
  k0_pay13 (k0_pay1 (x 0)) (k0_pay2 (x 0)) (k0_pay3 (x 1)) (k0_pay4 (x 1)) (k0_pay5 (x 2)) (k0_pay6 (x 2))
    (k0_pay7 (x 3)) (k0_pay8 (x 3)) (k0_pay9 (x 4)) (k0_pay10 (x 4)) (k0_pay11 (x 5)) (k0_pay12 (x 5)) (x 6) (x 7)

/-- Which of eight pieces, stacked, a position lies in, asked piece by piece. -/
theorem ladder (f : Fin 8 → Fin 512 → EReal) (i : ℕ) (hi : i - 512 - 512 - 512 - 512 - 512 - 512 - 512 < 512)
    (b : Fin 8) (r : Fin 512) (h : i = 512 * b.val + r.val) :
    (if h : i < 512 then f 0 ⟨i, h⟩
      else (if h : i - 512 < 512 then f 1 ⟨i - 512, h⟩
      else (if h : i - 512 - 512 < 512 then f 2 ⟨i - 512 - 512, h⟩
      else (if h : i - 512 - 512 - 512 < 512 then f 3 ⟨i - 512 - 512 - 512, h⟩
      else (if h : i - 512 - 512 - 512 - 512 < 512 then f 4 ⟨i - 512 - 512 - 512 - 512, h⟩
      else (if h : i - 512 - 512 - 512 - 512 - 512 < 512 then f 5 ⟨i - 512 - 512 - 512 - 512 - 512, h⟩
      else (if h : i - 512 - 512 - 512 - 512 - 512 - 512 < 512 then f 6 ⟨i - 512 - 512 - 512 - 512 - 512 - 512, h⟩
      else f 7 ⟨i - 512 - 512 - 512 - 512 - 512 - 512 - 512, hi⟩))))))) = f b r := by
  obtain ⟨r, hr⟩ := r
  dsimp only at h
  have key : ∀ (n : Fin 8) (q : ℕ) (hq : q < 512), 512 * n.val + q = 512 * b.val + r → f n ⟨q, hq⟩ = f b ⟨r, hr⟩ := by
    intro n q hq e
    obtain rfl : n = b := Fin.ext (by omega)
    obtain rfl : q = r := by omega
    rfl
  split_ifs <;> exact key _ _ _ (by first | omega | (simp; omega))

/-- A row's first statistic is the sum of the row. -/
theorem stB_sum_at (x : Fin 8 → Vec Ideal S512x1024 .f32) (b : Fin 8) (r : Fin 512) (i : Fin 4096) (h : i.val = 512 * b.val + r.val) :
    stB x (ix3 0 0 i) = ∑ k : Fin 1024, x b (ix2 r k) := by
  have hi : i.val - 512 - 512 - 512 - 512 - 512 - 512 - 512 < 512 := by have := i.isLt; omega
  refine Eq.trans ?_ (ladder (fun b r => ∑ k : Fin 1024, x b (ix2 r k)) i.val hi b r h)
  clear h r b
  pointwise [stB, k0_pay1, k0_pay2, k0_pay3, k0_pay4, k0_pay5, k0_pay6, k0_pay7, k0_pay8, k0_pay9, k0_pay10, k0_pay11,
    k0_pay12, k0_pay13]

/-- The first statistic of a row is the sum of its entries. -/
theorem stB_sum (x : Fin 8 → Vec Ideal S512x1024 .f32) (b : Fin 8) (r : Fin 512) :
    stB x (ix3 0 0 (rowAt b r)) = ∑ k : Fin 1024, x b (ix2 r k) := stB_sum_at x b r _ rfl

/-- The second statistic of some chunks is the first of their squares. -/
theorem stB_sq_eq (x : Fin 8 → Vec Ideal S512x1024 .f32) (i : Fin 4096) :
    stB x (ix3 0 1 i) = stB (fun b => (mulf (x b : FVec Ideal S512x1024 .f32) (x b) : FVec Ideal S512x1024 .f32)) (ix3 0 0 i) := by
  pointwise [stB, k0_pay1, k0_pay2, k0_pay3, k0_pay4, k0_pay5, k0_pay6, k0_pay7, k0_pay8, k0_pay9, k0_pay10, k0_pay11,
    k0_pay12, k0_pay13]

/-- A row's second statistic is the sum of the squares of the row. -/
theorem stB_sq (x : Fin 8 → Vec Ideal S512x1024 .f32) (b : Fin 8) (r : Fin 512) :
    stB x (ix3 0 1 (rowAt b r)) = ∑ k : Fin 1024, x b (ix2 r k) * x b (ix2 r k) := by
  rw [stB_sq_eq, stB_sum]
  rfl

variable (m : (ℓ : Loc nD τ sig) → Buf (Elt Ideal) ℓ)

/-- A chunk's row, in the device's block. -/
theorem xv_apply (c : Dev nD) (b : Fin 8) (r : Fin 512) (k : Fin 1024) :
    xv m c b (ix2 r k) = X m c (ix2 (rowAt b r) k) := by
  have h : (rowR b).emb (ix2 r k) = ix2 (rowAt b r) k := by
    funext a; fin_cases a
    · exact Fin.ext (by show 512 * b.val + 1 * r.val = 512 * b.val + r.val; omega)
    · exact Fin.ext (by show 0 + 1 * k.val = k.val; omega)
  show X m c ((rowR b).emb (ix2 r k)) = _
  rw [h]

/-- Every row is a row of a chunk. -/
theorem exists_rowAt (r : Fin 4096) : ∃ (b : Fin 8) (q : Fin 512), r = rowAt b q :=
  ⟨⟨r.val / 512, by omega⟩, ⟨r.val % 512, by omega⟩, Fin.ext (by show r.val = 512 * (r.val / 512) + r.val % 512; omega)⟩

/-- The device's first statistic of row `r` is the sum of the row of its block. -/
theorem stV_sum (c : Dev nD) (r : Fin 4096) : stV m c (ix3 0 0 r) = ∑ k : Fin 1024, X m c (ix2 r k) := by
  obtain ⟨b, q, rfl⟩ := exists_rowAt r
  refine (stB_sum (xv m c) b q).trans (Finset.sum_congr rfl fun k _ => ?_)
  rw [xv_apply]

/-- The device's second statistic of row `r` is the sum of the squares of the row of its block. -/
theorem stV_sq (c : Dev nD) (r : Fin 4096) :
    stV m c (ix3 0 1 r) = ∑ k : Fin 1024, X m c (ix2 r k) * X m c (ix2 r k) := by
  obtain ⟨b, q, rfl⟩ := exists_rowAt r
  refine (stB_sq (xv m c) b q).trans (Finset.sum_congr rfl fun k _ => ?_)
  rw [xv_apply]

/-- Four devices from `c` on, in their order round the mesh, are all four. -/
theorem sum_pk (f : Dev nD → EReal) (c : Dev nD) : f (pk c 0) + f (pk c 1) + f (pk c 2) + f (pk c 3) = ∑ d, f d := by
  have h : Function.Bijective (pk c) := by revert c; decide
  exact (Fin.sum_univ_four fun s => f (pk c s)).symm.trans (h.sum_comp f)

/-- The sum of row `r` over all devices' blocks. -/
def rowSum (r : Fin 4096) : EReal := ∑ d : Dev nD, ∑ k : Fin 1024, X m d (ix2 r k)
/-- The sum of the squares of row `r` over all devices' blocks. -/
def rowSq (r : Fin 4096) : EReal := ∑ d : Dev nD, ∑ k : Fin 1024, X m d (ix2 r k) * X m d (ix2 r k)

/-- What the four slots of a device add up to. -/
theorem total_sum (c : Dev nD) (r : Fin 4096) : total (sv m c 0) (sv m c 1) (sv m c 2) (sv m c 3) 0 r = rowSum m r := by
  unfold total rowSum
  simp only [sv_eq, stV_sum]
  exact sum_pk (fun d => ∑ k : Fin 1024, X m d (ix2 r k)) c

/-- The same for the sums of squares. -/
theorem total_sq (c : Dev nD) (r : Fin 4096) : total (sv m c 0) (sv m c 1) (sv m c 2) (sv m c 3) 1 r = rowSq m r := by
  unfold total rowSq
  simp only [sv_eq, stV_sq]
  exact sum_pk (fun d => ∑ k : Fin 1024, X m d (ix2 r k) * X m d (ix2 r k)) c

/-- `gamma` and `beta` as the kernel loads them are the device's blocks. -/
theorem gv_apply (c : Dev nD) (k : Fin 1024) : gv m c (ix1 k) = m (c.tc.loc main_arg1) (ix1 k) := by
  have h : (win0_0.blk (0 : Fin 1)).view.emb (ix1 k) = ix1 k := by
    funext a; fin_cases a; exact Fin.ext (by show 0 * 1024 + 1 * k.val = k.val; omega)
  show m (c.tc.loc main_arg1) ((win0_0.blk (0 : Fin 1)).view.emb (ix1 k)) = _
  rw [h]
/-- `beta` as the kernel loads it is the device's block. -/
theorem ev_apply (c : Dev nD) (k : Fin 1024) : ev m c (ix1 k) = m (c.tc.loc main_arg2) (ix1 k) := by
  have h : (win0_1.blk (0 : Fin 1)).view.emb (ix1 k) = ix1 k := by
    funext a; fin_cases a; exact Fin.ext (by show 0 * 1024 + 1 * k.val = k.val; omega)
  show m (c.tc.loc main_arg2) ((win0_1.blk (0 : Fin 1)).view.emb (ix1 k)) = _
  rw [h]

/-- Device `c`'s block of the result, at an index, of the sum and the sum of squares of the whole row. -/
theorem Y_apply (c : Dev nD) (r : Fin 4096) (k : Fin 1024) :
    Y m c (ix2 r k)
      = (X m c (ix2 r k) - meanR (rowSum m r))
          * Ideal.rsqrt (meanR (rowSq m r) - meanR (rowSum m r) * meanR (rowSum m r) + Ideal.ofBits .f32 0x3727C5AC#32)
          * m (c.tc.loc main_arg1) (ix1 k) + m (c.tc.loc main_arg2) (ix1 k) := by
  obtain ⟨b, q, rfl⟩ := exists_rowAt r
  have h : (ix2 (rowAt b q) k : S4096x1024.Idx) = (rowR b).emb (ix2 q k) := by
    funext a; fin_cases a
    · exact Fin.ext (by show 512 * b.val + q.val = 512 * b.val + 1 * q.val; omega)
    · exact Fin.ext (by show k.val = 0 + 1 * k.val; omega)
  rw [h, Y_emb, ← h]
  unfold ov
  rw [outB_apply, xv_apply, gv_apply, ev_apply]
  unfold rstdOf meanOf
  rw [total_sum, total_sq]
  rfl

end Cert.KernelIdeal.Ln

end
-- ==== Proof.Value.Reference.lean ====
/- What the reference computes over the extended reals, read at an index. -/
module

public import proofs.«01_k».proof.Proof.Gen.ReferenceIdeal
public import proofs.«01_k».proof.Proof.Gen.ReferenceIdeal.Run
public import proofs.«01_k».proof.Proof.Value.Math

@[expose] public section

noncomputable section

namespace Cert.ReferenceIdeal.Ln

open Cert.ReferenceIdeal Cert.ReferenceIdeal.Gen
open Idealize.ShloMosaic
open Cert.LayerNorm (meanR)

/-- The row means of `x`, as a column. -/
def rowMean (x : FVec Ideal S4096x4096 .f32) : FVec Ideal S4096x1 .f32 :=
  Host.divf (broadcastInDim S4096x1 ![0] bcast_S4096_S4096x1_0 (Host.reduceAdd x (constant S_ .f32 0x00000000#32) reducesTo_S4096x4096_S4096_d1 h_S_))
    (broadcastInDim S4096x1 ![] bcast_S_S4096x1 (constant S_ .f32 0x45800000#32))

/-- `x` less its row means. -/
def centred (x : FVec Ideal S4096x4096 .f32) : FVec Ideal S4096x4096 .f32 :=
  subf x (broadcastInDim S4096x4096 ![0, 1] bcast_S4096x1_S4096x4096_0_1 (rowMean x))

/-- The divisor of the variance: the row's length less the degrees of freedom taken off, none. -/
def count : FVec Ideal S_ .f32 := subf (constant S_ .f32 0x45800000#32) (sitofp .f32 (constantI S_ 32 0#32))

/-- The row variances of `x`, as a column. -/
def rowVar (x : FVec Ideal S4096x4096 .f32) : FVec Ideal S4096x1 .f32 :=
  select (broadcastInDim S4096x1 ![] bcast_S_S4096x1 (cmpf .ogt count (constant S_ .f32 0x00000000#32)))
    (Host.divf (broadcastInDim S4096x1 ![0] bcast_S4096_S4096x1_0
        (Host.reduceAdd (mulf (centred x) (centred x)) (constant S_ .f32 0x00000000#32) reducesTo_S4096x4096_S4096_d1 h_S_))
      (broadcastInDim S4096x1 ![] bcast_S_S4096x1 count))
    (broadcastInDim S4096x1 ![] bcast_S_S4096x1 (id (constant S_ .f32 0x7FC00000#32)))

/-- The reference's result. -/
def refOut (x : FVec Ideal S4096x4096 .f32) (g b : FVec Ideal S4096 .f32) : FVec Ideal S4096x4096 .f32 :=
  addf (Host.divf
      (mulf (broadcastInDim S4096x4096 ![0, 1] bcast_S1x4096_S4096x4096_0_1 (broadcastInDim S1x4096 ![1] bcast_S4096_S1x4096_1 g)) (centred x))
      (broadcastInDim S4096x4096 ![0, 1] bcast_S4096x1_S4096x4096_0_1
        (Host.sqrt (addf (rowVar x) (broadcastInDim S4096x1 ![] bcast_S_S4096x1 (constant S_ .f32 0x3727C5AC#32))))))
    (broadcastInDim S4096x4096 ![0, 1] bcast_S1x4096_S4096x4096_0_1 (broadcastInDim S1x4096 ![1] bcast_S4096_S1x4096_1 b))

/-- A row's mean. -/
theorem rowMean_apply (x : FVec Ideal S4096x4096 .f32) (r : Fin 4096) :
    rowMean x (ix2 r 0) = meanR (∑ a : Fin 4096, x (ix2 r a)) := by
  pointwise [rowMean, meanR]

/-- An entry less its row's mean. -/
theorem centred_apply (x : FVec Ideal S4096x4096 .f32) (r k : Fin 4096) :
    centred x (ix2 r k) = x (ix2 r k) - meanR (∑ a : Fin 4096, x (ix2 r a)) := by
  rw [← rowMean_apply]
  pointwise [centred]

/-- The divisor of the variance is the row's length, a positive number. -/
theorem count_apply : count ix0 = Ideal.ofBits .f32 0x45800000#32 := by
  have h : (FloatOps.sitofp FTy.f32 (0#32) : Ideal FTy.f32) = 0 := by
    show (((0#32 : BitVec 32).toInt : ℝ) : EReal) = 0
    simp
  pointwise [count]
  rw [h]
  exact sub_zero _

/-- The row's length is positive, so the guard of the variance holds. -/
theorem count_pos : (0 : EReal) < Ideal.ofBits .f32 0x45800000#32 := by
  rw [Cert.LayerNorm.length_word]
  exact_mod_cast (by norm_num : (0 : ℝ) < 4096)

/-- A row's variance is the mean of the squares of its entries less its mean. -/
theorem rowVar_apply (x : FVec Ideal S4096x4096 .f32) (r : Fin 4096) :
    rowVar x (ix2 r 0)
      = meanR (∑ a : Fin 4096, (x (ix2 r a) - meanR (∑ a : Fin 4096, x (ix2 r a))) * (x (ix2 r a) - meanR (∑ a : Fin 4096, x (ix2 r a)))) := by
  simp only [← centred_apply]
  pointwise [rowVar]
  simp only [count_apply, count_pos]
  simp [meanR]

/-- The reference's result at an index. -/
theorem refOut_apply (x : FVec Ideal S4096x4096 .f32) (g b : FVec Ideal S4096 .f32) (r k : Fin 4096) :
    refOut x g b (ix2 r k)
      = Ideal.div (g (ix1 k) * (x (ix2 r k) - meanR (∑ a : Fin 4096, x (ix2 r a))))
          (Ideal.sqrt (meanR (∑ a : Fin 4096, (x (ix2 r a) - meanR (∑ a : Fin 4096, x (ix2 r a))) * (x (ix2 r a) - meanR (∑ a : Fin 4096, x (ix2 r a))))
            + Ideal.ofBits .f32 0x3727C5AC#32)) + b (ix1 k) := by
  rw [← rowVar_apply, ← centred_apply]
  pointwise [refOut]

end Cert.ReferenceIdeal.Ln

end
-- ==== Proof.Value.Equation.lean ====
/- The kernel's result is the reference's: on rows of real numbers, device `c` ends holding its block of columns of the reference's result. -/
module

public import proofs.«01_k».proof.Proof.Value.Stats
public import proofs.«01_k».proof.Proof.Value.Reference
public import Idealize.ShloMosaic.Lib.Layout
public import Idealize.ShloMosaic.Lib.Pointwise

@[expose] public section

noncomputable section

namespace Cert.Equation

open Idealize.ShloMosaic
open Cert.KernelIdeal Cert.KernelIdeal.Ln
open Cert.ReferenceIdeal.Ln (refOut refOut_apply)
open Cert.LayerNorm (layerNorm)

/-- The column of the whole array that column `k` of device `d`'s block is. -/
def col (d : Dev nD) (k : Fin 1024) : Fin 4096 := ⟨d.val * 1024 + k.val, by have := d.isLt; have := k.isLt; simp only [nD] at *; omega⟩

/-- Every column of the whole array is in some device's block. -/
theorem exists_col (a : Fin 4096) : ∃ d k, a = col d k :=
  ⟨⟨a.val / 1024, by have := a.isLt; simp only [nD]; omega⟩, ⟨a.val % 1024, by omega⟩,
    Fin.ext (by show a.val = a.val / 1024 * 1024 + a.val % 1024; omega)⟩

/-- A device's block of columns of a matrix, at an index. -/
theorem block_col (v : (⟨2, ![4096, 4096]⟩ : Shape).Idx → EReal) (d : Dev nD) (r : Fin 4096) (k : Fin 1024) :
    Layout.block ⟨2, ![4096, 1024]⟩ ⟨2, ![4096, 4096]⟩ 1 4 d v (by decide) (ix2 r k) = v (ix2 r (col d k)) := by
  rw [Layout.block_apply]
  congr 1
  funext a; fin_cases a
  · rfl
  · rfl

/-- A device's block of a vector, at an index. -/
theorem block_vec (v : (⟨1, ![4096]⟩ : Shape).Idx → EReal) (d : Dev nD) (k : Fin 1024) :
    Layout.block ⟨1, ![1024]⟩ ⟨1, ![4096]⟩ 0 4 d v (by decide) (ix1 k) = v (ix1 (col d k)) := by
  rw [Layout.block_apply]
  congr 1
  funext a; fin_cases a
  rfl

/-- A sum over a row is the sum over the devices of the sums over their blocks. -/
theorem sum_cols (f : Fin 4096 → EReal) : ∑ d : Dev nD, ∑ k : Fin 1024, f (col d k) = ∑ a, f a :=
  (Fin.sum_univ_tiles 4 1024 rfl f).symm

variable (m : (ℓ : Loc nD τ sig) → Buf (Elt Ideal) ℓ)

/-- Where every device's arguments are its blocks of `x`, `g` and `b` and its block of `x` is real,
    its result is its block of the reference's. -/
theorem out_eq (x : FVec Ideal Cert.ReferenceIdeal.S4096x4096 .f32) (g b : FVec Ideal Cert.ReferenceIdeal.S4096 .f32)
    (hx : ∀ c : Dev nD, m (c.tc.loc main_arg0) = Layout.block ⟨2, ![4096, 1024]⟩ ⟨2, ![4096, 4096]⟩ 1 4 c x)
    (hg : ∀ c : Dev nD, m (c.tc.loc main_arg1) = Layout.block ⟨1, ![1024]⟩ ⟨1, ![4096]⟩ 0 4 c g)
    (hb : ∀ c : Dev nD, m (c.tc.loc main_arg2) = Layout.block ⟨1, ![1024]⟩ ⟨1, ![4096]⟩ 0 4 c b)
    (hreal : ∀ (c : Dev nD) (j : S4096x1024.Idx), ∃ a : ℝ, X m c j = (a : EReal)) (c : Dev nD) :
    Y m c = Layout.block ⟨2, ![4096, 1024]⟩ ⟨2, ![4096, 4096]⟩ 1 4 c (refOut x g b) := by
  have hX : ∀ (d : Dev nD) (r : Fin 4096) (k : Fin 1024), X m d (ix2 r k) = x (ix2 r (col d k)) := fun d r k =>
    (congrFun (hx d) (ix2 r k)).trans (block_col x d r k)
  funext j
  obtain ⟨r, k, rfl⟩ : ∃ (r : Fin 4096) (k : Fin 1024), j = ix2 r k := ⟨j 0, j 1, eq_ix2 j⟩
  have hr : ∀ a : Fin 4096, ∃ t : ℝ, x (ix2 r a) = (t : EReal) := fun a => by
    obtain ⟨d, k, rfl⟩ := exists_col a
    obtain ⟨t, ht⟩ := hreal d (ix2 r k)
    exact ⟨t, (hX d r k).symm.trans ht⟩
  choose t ht using hr
  have hS : rowSum m r = ∑ a, (t a : EReal) := by
    unfold rowSum
    simp only [hX, ht]
    exact sum_cols fun a => (t a : EReal)
  have hQ : rowSq m r = ∑ a, (t a : EReal) * (t a : EReal) := by
    unfold rowSq
    simp only [hX, ht]
    exact sum_cols fun a => (t a : EReal) * (t a : EReal)
  refine Eq.trans ?_ (block_col (refOut x g b) c r k).symm
  rw [Y_apply, refOut_apply, hX, hS, hQ]
  rw [show m (c.tc.loc main_arg1) (ix1 k) = g (ix1 (col c k)) from (congrFun (hg c) (ix1 k)).trans (block_vec g c k),
    show m (c.tc.loc main_arg2) (ix1 k) = b (ix1 (col c k)) from (congrFun (hb c) (ix1 k)).trans (block_vec b c k)]
  simp only [ht]
  exact layerNorm t (t (col c k)) _ _

end Cert.Equation

end
-- ==== Proof.Algebraic.lean ====
/- The value claim: from agreeing arguments, the kernel ends with each device holding its block of the reference's result. -/
module

public import proofs.«01_k».proof.Proof.Frames
public import proofs.«01_k».proof.Proof.Value.Finite
public import proofs.«01_k».proof.Proof.Value.Equation

@[expose] public section

noncomputable section

namespace Cert.Proof

open Idealize.ShloMosaic Idealize.SL.Sem

/-- Where the entries of `x` are finite, both programs run and every device's result is its block of columns of the reference's. -/
theorem algebraic : Cert.algebraic_KernelIdeal_ReferenceIdeal_pre_x_finite_KernelIdeal (hKernelIdeal := Cert.KernelIdeal.Gen.facts)
    (hReferenceIdeal := Cert.ReferenceIdeal.Gen.facts) (hPre_x_finite_KernelIdeal := preKernel) := by
  intro m ρ m' ρ' hpre hagree
  have hreal : ∀ (c : Dev Cert.KernelIdeal.nD) (j : Cert.KernelIdeal.S4096x1024.Idx),
      ∃ a : ℝ, Cert.KernelIdeal.Ln.X m c j = (a : EReal) := fun c j =>
    haveI := preKernel
    Cert.Finite.real_of_pre _ _ _ (hpre c) j
  have hY := Cert.Equation.out_eq m _ _ _ (fun c => (hagree c).1) (fun c => (hagree c).2.1) (fun c => (hagree c).2.2) hreal
  refine ⟨_, (θ_run Cert.KernelIdeal.defs _ _).mono (fun _ h c => ⟨(h.1 c).1.trans (hY c), (h.1 c).2⟩)
      (Cert.KernelIdeal.Ln.run_main (F := Ideal) m ρ), ?_⟩
  exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- Every conjunct of the certificate's claim. -/
theorem claim : Cert.Claim :=
  ⟨Cert.Kernel.Gen.facts, Cert.KernelIdeal.Gen.facts, Cert.ReferenceIdeal.Gen.facts, preKernel, preReference,
    frame_kernel, frame_ideal, frame_ideal_pre, frame_reference, frame_reference_pre, trivial, algebraic⟩

end Cert.Proof

end
